-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_alike [hPre_experts_alike : Cert.Pre_experts_alike.Facts] (m : (ℓ : Loc Cert.KernelIdeal.nD Cert.KernelIdeal.τ Cert.KernelIdeal.sig) → Buf (Elt Ideal) ℓ) : Prop :=
  ∀ c : Dev Cert.KernelIdeal.nD,
    (Cert.Pre_experts_alike.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_alike [hPre_experts_alike : Cert.Pre_experts_alike.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_alike.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_alike [hKernelIdeal : Cert.KernelIdeal.Facts] [hPre_experts_alike : Cert.Pre_experts_alike.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_alike m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_alike [hReferenceIdeal : Cert.ReferenceIdeal.Facts] [hPre_experts_alike : Cert.Pre_experts_alike.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_alike m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_hw" .f32 0x3BA72F05#32 ((196⁻¹ : ℝ) : EReal)

def algebraic_KernelIdeal_ReferenceIdeal_pre_experts_alike [hKernelIdeal : Cert.KernelIdeal.Facts] [hReferenceIdeal : Cert.ReferenceIdeal.Facts] [hPre_experts_alike : Cert.Pre_experts_alike.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_alike m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_alike : Cert.Pre_experts_alike.Facts),
    quiescent_Kernel (hKernel := hKernel)
    ∧ quiescent_KernelIdeal (hKernelIdeal := hKernelIdeal)
    ∧ quiescent_KernelIdeal_pre_experts_alike (hKernelIdeal := hKernelIdeal) (hPre_experts_alike := hPre_experts_alike)
    ∧ quiescent_ReferenceIdeal (hReferenceIdeal := hReferenceIdeal)
    ∧ quiescent_ReferenceIdeal_pre_experts_alike (hReferenceIdeal := hReferenceIdeal) (hPre_experts_alike := hPre_experts_alike)
    ∧ preserves_Kernel_KernelIdeal
    ∧ algebraic_KernelIdeal_ReferenceIdeal_pre_experts_alike (hKernelIdeal := hKernelIdeal) (hReferenceIdeal := hReferenceIdeal) (hPre_experts_alike := hPre_experts_alike)
-- ==== Pre_experts_alike.lean ====
abbrev S32x128x14x14 : Shape := ⟨4, ![32, 128, 14, 14]⟩
abbrev S128x16 : Shape := ⟨2, ![128, 16]⟩
abbrev S16x128x128x3x3 : Shape := ⟨5, ![16, 128, 128, 3, 3]⟩
abbrev S16x128 : Shape := ⟨2, ![16, 128]⟩
abbrev S_ : Shape := ⟨0, ![]⟩
abbrev S1x128x128x3x3 : Shape := ⟨5, ![1, 128, 128, 3, 3]⟩
abbrev S1x128 : Shape := ⟨2, ![1, 128]⟩

class Facts : Prop where
  bcast_S_S32x128x14x14 : S_.BroadcastsInDim S32x128x14x14 (![] : Fin 0 → Fin S32x128x14x14.rank)
  reducesTo_S32x128x14x14_S_d0_1_2_3 : S32x128x14x14.ReducesTo [0, 1, 2, 3] S_
  h_S_ : 0 < S_.numel
  bcast_S_S128x16 : S_.BroadcastsInDim S128x16 (![] : Fin 0 → Fin S128x16.rank)
  reducesTo_S128x16_S_d0_1 : S128x16.ReducesTo [0, 1] S_
  bcast_S_S16x128x128x3x3 : S_.BroadcastsInDim S16x128x128x3x3 (![] : Fin 0 → Fin S16x128x128x3x3.rank)
  reducesTo_S16x128x128x3x3_S_d0_1_2_3_4 : S16x128x128x3x3.ReducesTo [0, 1, 2, 3, 4] S_
  bcast_S_S16x128 : S_.BroadcastsInDim S16x128 (![] : Fin 0 → Fin S16x128.rank)
  reducesTo_S16x128_S_d0_1 : S16x128.ReducesTo [0, 1] S_
  slices_S16x128x128x3x3_S1x128x128x3x3_0_0_0_0_0 : S16x128x128x3x3.Slices ![0, 0, 0, 0, 0] S1x128x128x3x3
  bcast_S1x128x128x3x3_S16x128x128x3x3_0_1_2_3_4 : S1x128x128x3x3.BroadcastsInDim S16x128x128x3x3 (![0, 1, 2, 3, 4] : Fin 5 → Fin S16x128x128x3x3.rank)
  slices_S16x128_S1x128_0_0 : S16x128.Slices ![0, 0] S1x128
  bcast_S1x128_S16x128_0_1 : S1x128.BroadcastsInDim S16x128 (![0, 1] : Fin 2 → Fin S16x128.rank)

variable [Facts]

def fn_part1 {F : FTy → Type} [FloatOps F] (main_arg2 : FVec F S16x128x128x3x3 .f32) (main_arg3 : FVec F S16x128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S1x128x128x3x3 .f32 := (extractStridedSlice S1x128x128x3x3 ![0, 0, 0, 0, 0] · slices_S16x128x128x3x3_S1x128x128x3x3_0_0_0_0_0) main_arg2
  let main_v20 : FVec F S16x128x128x3x3 .f32 := broadcastInDim S16x128x128x3x3 ![0, 1, 2, 3, 4] bcast_S1x128x128x3x3_S16x128x128x3x3_0_1_2_3_4 main_v19
  let main_v21 : IVec S16x128x128x3x3 1 := cmpf .oeq main_arg2 main_v20
  let main_c_6 : IVec S_ 1 := constantI S_ 1 1#1
  let main_v22 : IVec S_ 1 := (fun x v => Host.reduce IntOp.andi x v reducesTo_S16x128x128x3x3_S_d0_1_2_3_4 h_S_) main_v21 main_c_6
  let main_v23 : IVec S_ 1 := andi main_v18 main_v22
  let main_v24 : FVec F S1x128 .f32 := (extractStridedSlice S1x128 ![0, 0] · slices_S16x128_S1x128_0_0) main_arg3
  let main_v25 : FVec F S16x128 .f32 := broadcastInDim S16x128 ![0, 1] bcast_S1x128_S16x128_0_1 main_v24
  let main_v26 : IVec S16x128 1 := cmpf .oeq main_arg3 main_v25
  let main_c_7 : IVec S_ 1 := constantI S_ 1 1#1
  let main_v27 : IVec S_ 1 := (fun x v => Host.reduce IntOp.andi x v reducesTo_S16x128_S_d0_1 h_S_) main_v26 main_c_7
  let main_v28 : IVec S_ 1 := andi main_v23 main_v27
  main_v28

def fn {F : FTy → Type} [FloatOps F] (main_arg0 : FVec F S32x128x14x14 .f32) (main_arg1 : FVec F S128x16 .f32) (main_arg2 : FVec F S16x128x128x3x3 .f32) (main_arg3 : FVec F S16x128 .f32) : IVec S_ 1 :=
  let main_v0 : FVec F S32x128x14x14 .f32 := Host.absf main_arg0
  let main_cst : FVec F S_ .f32 := constant S_ .f32 0x7F800000#32
  let main_v1 : FVec F S32x128x14x14 .f32 := broadcastInDim S32x128x14x14 ![] bcast_S_S32x128x14x14 main_cst
  let main_v2 : IVec S32x128x14x14 1 := cmpf .olt main_v0 main_v1
  let main_c : IVec S_ 1 := constantI S_ 1 1#1
  let main_v3 : IVec S_ 1 := (fun x v => Host.reduce IntOp.andi x v reducesTo_S32x128x14x14_S_d0_1_2_3 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16x128x128x3x3 .f32 := Host.absf main_arg2
  let main_cst_2 : FVec F S_ .f32 := constant S_ .f32 0x7F800000#32
  let main_v10 : FVec F S16x128x128x3x3 .f32 := broadcastInDim S16x128x128x3x3 ![] bcast_S_S16x128x128x3x3 main_cst_2
  let main_v11 : IVec S16x128x128x3x3 1 := cmpf .olt main_v9 main_v10
  let main_c_3 : IVec S_ 1 := constantI S_ 1 1#1
  let main_v12 : IVec S_ 1 := (fun x v => Host.reduce IntOp.andi x v reducesTo_S16x128x128x3x3_S_d0_1_2_3_4 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg2 main_arg3 main_v13 main_v16
-- ==== Kernel.lean ====
abbrev S32x128x14x14 : Shape := ⟨4, ![32, 128, 14, 14]⟩
abbrev S128x16 : Shape := ⟨2, ![128, 16]⟩
abbrev S16x128x128x3x3 : Shape := ⟨5, ![16, 128, 128, 3, 3]⟩
abbrev S16x128 : Shape := ⟨2, ![16, 128]⟩
abbrev S14x14x32x128 : Shape := ⟨4, ![14, 14, 32, 128]⟩
abbrev S196x32x128 : Shape := ⟨3, ![196, 32, 128]⟩
abbrev S16x3x3x128x128 : Shape := ⟨5, ![16, 3, 3, 128, 128]⟩
abbrev S1x3x3x128x128 : Shape := ⟨5, ![1, 3, 3, 128, 128]⟩
abbrev S3x3x128x128 : Shape := ⟨4, ![3, 3, 128, 128]⟩
abbrev S9x128x128 : Shape := ⟨3, ![9, 128, 128]⟩
abbrev S1x128 : Shape := ⟨2, ![1, 128]⟩
abbrev S128 : Shape := ⟨1, ![128]⟩
abbrev S1x1 : Shape := ⟨2, ![1, 1]⟩
abbrev S_ : Shape := ⟨0, ![]⟩
abbrev S272x32x128 : Shape := ⟨3, ![272, 32, 128]⟩
abbrev S14x32x128 : Shape := ⟨3, ![14, 32, 128]⟩
abbrev S224x32x128 : Shape := ⟨3, ![224, 32, 128]⟩
abbrev S1x128x128 : Shape := ⟨3, ![1, 128, 128]⟩
abbrev S128x128 : Shape := ⟨2, ![128, 128]⟩
abbrev S1x1x128 : Shape := ⟨3, ![1, 1, 128]⟩
abbrev S32x128 : Shape := ⟨2, ![32, 128]⟩
abbrev S32x16 : Shape := ⟨2, ![32, 16]⟩
abbrev S32 : Shape := ⟨1, ![32]⟩
abbrev S32x1 : Shape := ⟨2, ![32, 1]⟩
abbrev S16 : Shape := ⟨1, ![16]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩

abbrev nBuf : Space → Nat
  | .hbm => 19
  | .vmem => 7
  | .smem => 0
  | _ => 0

abbrev bufTy : (tb : Table) → Fin (tcTables nBuf tb) → BufTy
  | .hbm, ⟨0, _⟩ => ⟨S32x128x14x14, .f32⟩
  | .hbm, ⟨1, _⟩ => ⟨S128x16, .f32⟩
  | .hbm, ⟨2, _⟩ => ⟨S16x128x128x3x3, .f32⟩
  | .hbm, ⟨3, _⟩ => ⟨S16x128, .f32⟩
  | .hbm, ⟨4, _⟩ => ⟨S14x14x32x128, .f32⟩
  | .hbm, ⟨5, _⟩ => ⟨S196x32x128, .f32⟩
  | .hbm, ⟨6, _⟩ => ⟨S16x3x3x128x128, .f32⟩
  | .hbm, ⟨7, _⟩ => ⟨S1x3x3x128x128, .f32⟩
  | .hbm, ⟨8, _⟩ => ⟨S3x3x128x128, .f32⟩
  | .hbm, ⟨9, _⟩ => ⟨S9x128x128, .f32⟩
  | .hbm, ⟨10, _⟩ => ⟨S9x128x128, .bf16⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S196x32x128, .f32⟩
  | .hbm, ⟨15, _⟩ => ⟨S1x1, .f32⟩
  | .hbm, ⟨16, _⟩ => ⟨S14x14x32x128, .f32⟩
  | .hbm, ⟨17, _⟩ => ⟨S32x128x14x14, .f32⟩
  | .hbm, ⟨18, _⟩ => ⟨S_, .f32⟩
  | .local _ .vmem, ⟨0, _⟩ => ⟨S196x32x128, .f32⟩
  | .local _ .vmem, ⟨1, _⟩ => ⟨S9x128x128, .bf16⟩
  | .local _ .vmem, ⟨2, _⟩ => ⟨S1x128, .f32⟩
  | .local _ .vmem, ⟨3, _⟩ => ⟨S128x16, .f32⟩
  | .local _ .vmem, ⟨4, _⟩ => ⟨S196x32x128, .f32⟩
  | .local _ .vmem, ⟨5, _⟩ => ⟨S1x1, .f32⟩
  | .local _ .vmem, ⟨6, _⟩ => ⟨S272x32x128, .bf16⟩
  | _, _ => ⟨S32x128x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10_0 : Ref sig .tc := ⟨.hbm, 14, rfl⟩
abbrev main_call0_v10_1 : Ref sig .tc := ⟨.hbm, 15, rfl⟩
abbrev main_call0_v11 : Ref sig .tc := ⟨.hbm, 16, rfl⟩
abbrev main_v0_0 : Ref sig .tc := ⟨.hbm, 17, rfl⟩
abbrev main_v0_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S196x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S196x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_hw" => some ((196⁻¹ : ℝ) : EReal)
  | _ => none
-- ==== ReferenceIdeal.lean ====
abbrev S32x128x14x14 : Shape := ⟨4, ![32, 128, 14, 14]⟩
abbrev S128x16 : Shape := ⟨2, ![128, 16]⟩
abbrev S16x128x128x3x3 : Shape := ⟨5, ![16, 128, 128, 3, 3]⟩
abbrev S16x128 : Shape := ⟨2, ![16, 128]⟩
abbrev S_ : Shape := ⟨0, ![]⟩
abbrev S32x128 : Shape := ⟨2, ![32, 128]⟩
abbrev S32x16 : Shape := ⟨2, ![32, 16]⟩
abbrev S32x2 : Shape := ⟨2, ![32, 2]⟩
abbrev S32 : Shape := ⟨1, ![32]⟩
abbrev S32x1 : Shape := ⟨2, ![32, 1]⟩
abbrev S64 : Shape := ⟨1, ![64]⟩
abbrev S64x1 : Shape := ⟨2, ![64, 1]⟩
abbrev S64x2 : Shape := ⟨2, ![64, 2]⟩
abbrev S64x128x14x14 : Shape := ⟨4, ![64, 128, 14, 14]⟩
abbrev S64x128x128x3x3 : Shape := ⟨5, ![64, 128, 128, 3, 3]⟩
abbrev S64x128 : Shape := ⟨2, ![64, 128]⟩
abbrev S64x128x16x16 : Shape := ⟨4, ![64, 128, 16, 16]⟩
abbrev S64x128x128x1x1 : Shape := ⟨5, ![64, 128, 128, 1, 1]⟩
abbrev S64x128x128 : Shape := ⟨3, ![64, 128, 128]⟩
abbrev S64x128x1x1 : Shape := ⟨4, ![64, 128, 1, 1]⟩
abbrev S64x1x1x1 : Shape := ⟨4, ![64, 1, 1, 1]⟩
abbrev S16 : Shape := ⟨1, ![16]⟩
abbrev S1 : Shape := ⟨1, ![1]⟩

abbrev nBuf : Space → Nat
  | .hbm => 223
  | .vmem => 0
  | .smem => 0
  | _ => 0

abbrev hbmTy0_0 (i : Nat) : BufTy := match i % 128 with
  | 0 => ⟨S32x128x14x14, .f32⟩
  | 1 => ⟨S128x16, .f32⟩
  | 2 => ⟨S16x128x128x3x3, .f32⟩
  | 3 => ⟨S16x128, .f32⟩
  | 4 => ⟨S_, .f32⟩
  | 5 => ⟨S32x128, .f32⟩
  | 6 => ⟨S_, .f32⟩
  | 7 => ⟨S32x128, .f32⟩
  | 8 => ⟨S32x128, .f32⟩
  | 9 => ⟨S32x16, .f32⟩
  | 10 => ⟨S32x2, .f32⟩
  | 11 => ⟨S32x2, .i32⟩
  | 12 => ⟨S_, .f32⟩
  | 13 => ⟨S32, .f32⟩
  | 14 => ⟨S_, .f32⟩
  | 15 => ⟨S32, .f32⟩
  | 16 => ⟨S32, .f32⟩
  | 17 => ⟨S32x1, .f32⟩
  | 18 => ⟨S32x2, .f32⟩
  | 19 => ⟨S32x2, .f32⟩
  | 20 => ⟨S32x2, .f32⟩
  | 21 => ⟨S_, .f32⟩
  | 22 => ⟨S32, .f32⟩
  | 23 => ⟨S32x1, .f32⟩
  | 24 => ⟨S32x2, .f32⟩
  | 25 => ⟨S32x2, .f32⟩
  | 26 => ⟨S32, .i32⟩
  | 27 => ⟨S32x2, .i32⟩
  | 28 => ⟨S64, .i32⟩
  | 29 => ⟨S64, .i32⟩
  | 30 => ⟨S64, .f32⟩
  | 31 => ⟨S_, .f32⟩
  | 32 => ⟨S32x16, .f32⟩
  | 33 => ⟨S_, .i32⟩
  | 34 => ⟨S64, .i32⟩
  | 35 => ⟨S64, .i1⟩
  | 36 => ⟨S_, .i32⟩
  | 37 => ⟨S64, .i32⟩
  | 38 => ⟨S64, .i32⟩
  | 39 => ⟨S64, .i32⟩
  | 40 => ⟨S_, .i32⟩
  | 41 => ⟨S64, .i32⟩
  | 42 => ⟨S64, .i1⟩
  | 43 => ⟨S_, .i32⟩
  | 44 => ⟨S64, .i32⟩
  | 45 => ⟨S64, .i32⟩
  | 46 => ⟨S64, .i32⟩
  | 47 => ⟨S64x1, .i32⟩
  | 48 => ⟨S64x1, .i32⟩
  | 49 => ⟨S64x2, .i32⟩
  | 50 => ⟨S32x16, .f32⟩
  | 51 => ⟨S_, .i32⟩
  | 52 => ⟨S64, .i32⟩
  | 53 => ⟨S64, .i1⟩
  | 54 => ⟨S_, .i32⟩
  | 55 => ⟨S64, .i32⟩
  | 56 => ⟨S64, .i32⟩
  | 57 => ⟨S64, .i32⟩
  | 58 => ⟨S64x1, .i32⟩
  | 59 => ⟨S64x128x14x14, .f32⟩
  | 60 => ⟨S_, .i32⟩
  | 61 => ⟨S64, .i32⟩
  | 62 => ⟨S64, .i1⟩
  | 63 => ⟨S_, .i32⟩
  | 64 => ⟨S64, .i32⟩
  | 65 => ⟨S64, .i32⟩
  | 66 => ⟨S64, .i32⟩
  | 67 => ⟨S64x1, .i32⟩
  | 68 => ⟨S64x128x128x3x3, .f32⟩
  | 69 => ⟨S_, .i32⟩
  | 70 => ⟨S64, .i32⟩
  | 71 => ⟨S64, .i1⟩
  | 72 => ⟨S_, .i32⟩
  | 73 => ⟨S64, .i32⟩
  | 74 => ⟨S64, .i32⟩
  | 75 => ⟨S64, .i32⟩
  | 76 => ⟨S64x1, .i32⟩
  | 77 => ⟨S64x128, .f32⟩
  | 78 => ⟨S_, .i32⟩
  | 79 => ⟨S_, .f32⟩
  | 80 => ⟨S64x128x16x16, .f32⟩
  | 81 => ⟨S_, .f32⟩
  | 82 => ⟨S64x128x14x14, .f32⟩
  | 83 => ⟨S64x128x128x1x1, .f32⟩
  | 84 => ⟨S64x128x128, .f32⟩
  | 85 => ⟨S64x128x14x14, .f32⟩
  | 86 => ⟨S64x128x14x14, .f32⟩
  | 87 => ⟨S64x128x14x14, .f32⟩
  | 88 => ⟨S64x128x128x1x1, .f32⟩
  | 89 => ⟨S64x128x128, .f32⟩
  | 90 => ⟨S64x128x14x14, .f32⟩
  | 91 => ⟨S64x128x14x14, .f32⟩
  | 92 => ⟨S64x128x14x14, .f32⟩
  | 93 => ⟨S64x128x128x1x1, .f32⟩
  | 94 => ⟨S64x128x128, .f32⟩
  | 95 => ⟨S64x128x14x14, .f32⟩
  | 96 => ⟨S64x128x14x14, .f32⟩
  | 97 => ⟨S64x128x14x14, .f32⟩
  | 98 => ⟨S64x128x128x1x1, .f32⟩
  | 99 => ⟨S64x128x128, .f32⟩
  | 100 => ⟨S64x128x14x14, .f32⟩
  | 101 => ⟨S64x128x14x14, .f32⟩
  | 102 => ⟨S64x128x14x14, .f32⟩
  | 103 => ⟨S64x128x128x1x1, .f32⟩
  | 104 => ⟨S64x128x128, .f32⟩
  | 105 => ⟨S64x128x14x14, .f32⟩
  | 106 => ⟨S64x128x14x14, .f32⟩
  | 107 => ⟨S64x128x14x14, .f32⟩
  | 108 => ⟨S64x128x128x1x1, .f32⟩
  | 109 => ⟨S64x128x128, .f32⟩
  | 110 => ⟨S64x128x14x14, .f32⟩
  | 111 => ⟨S64x128x14x14, .f32⟩
  | 112 => ⟨S64x128x14x14, .f32⟩
  | 113 => ⟨S64x128x128x1x1, .f32⟩
  | 114 => ⟨S64x128x128, .f32⟩
  | 115 => ⟨S64x128x14x14, .f32⟩
  | 116 => ⟨S64x128x14x14, .f32⟩
  | 117 => ⟨S64x128x14x14, .f32⟩
  | 118 => ⟨S64x128x128x1x1, .f32⟩
  | 119 => ⟨S64x128x128, .f32⟩
  | 120 => ⟨S64x128x14x14, .f32⟩
  | 121 => ⟨S64x128x14x14, .f32⟩
  | 122 => ⟨S64x128x14x14, .f32⟩
  | 123 => ⟨S64x128x128x1x1, .f32⟩
  | 124 => ⟨S64x128x128, .f32⟩
  | 125 => ⟨S64x128x14x14, .f32⟩
  | 126 => ⟨S64x128x14x14, .f32⟩
  | 127 => ⟨S64x128x14x14, .f32⟩
  | _ => ⟨S32x128x14x14, .f32⟩

abbrev hbmTy0_1 (i : Nat) : BufTy := match i % 128 with
  | 0 => ⟨S64x128x1x1, .f32⟩
  | 1 => ⟨S64x128x14x14, .f32⟩
  | 2 => ⟨S64x128x14x14, .f32⟩
  | 3 => ⟨S64x128x14x14, .f32⟩
  | 4 => ⟨S64x1x1x1, .f32⟩
  | 5 => ⟨S64x128x14x14, .f32⟩
  | 6 => ⟨S64x128x14x14, .f32⟩
  | 7 => ⟨S_, .f32⟩
  | 8 => ⟨S32x128x14x14, .f32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S32x128x14x14, .f32⟩
  | 18 => ⟨S_, .f32⟩
  | 19 => ⟨S32x128x14x14, .f32⟩
  | 20 => ⟨S32x128x14x14, .i1⟩
  | 21 => ⟨S_, .f32⟩
  | 22 => ⟨S32x128x14x14, .f32⟩
  | 23 => ⟨S32x128x14x14, .f32⟩
  | 24 => ⟨S32x128x14x14, .f32⟩
  | 25 => ⟨S_, .f32⟩
  | 26 => ⟨S16, .f32⟩
  | 27 => ⟨S_, .f32⟩
  | 28 => ⟨S32x16, .f32⟩
  | 29 => ⟨S32x16, .i1⟩
  | 30 => ⟨S32x16, .i32⟩
  | 31 => ⟨S_, .i32⟩
  | 32 => ⟨S16, .i32⟩
  | 33 => ⟨S16, .f32⟩
  | 34 => ⟨S_, .i32⟩
  | 35 => ⟨S_, .f32⟩
  | 36 => ⟨S_, .f32⟩
  | 37 => ⟨S1, .f32⟩
  | 38 => ⟨S_, .f32⟩
  | 39 => ⟨S1, .f32⟩
  | 40 => ⟨S1, .f32⟩
  | 41 => ⟨S16, .f32⟩
  | 42 => ⟨S16, .f32⟩
  | 43 => ⟨S16, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i32⟩
  | 64 => ⟨S_, .f32⟩
  | 65 => ⟨S_, .f32⟩
  | 66 => ⟨S1, .f32⟩
  | 67 => ⟨S_, .f32⟩
  | 68 => ⟨S1, .f32⟩
  | 69 => ⟨S1, .f32⟩
  | 70 => ⟨S16, .f32⟩
  | 71 => ⟨S16, .f32⟩
  | 72 => ⟨S16, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i1⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | _ => ⟨S32x128x14x14, .f32⟩

abbrev hbmTy (i : Nat) : BufTy := match i / 128 with
  | 0 => hbmTy0_0 i
  | 1 => hbmTy0_1 i
  | _ => ⟨S32x128x14x14, .f32⟩

abbrev bufTy : (tb : Table) → Fin (tcTables nBuf tb) → BufTy
  | .hbm, ⟨i, _⟩ => hbmTy i
  | _, _ => ⟨S32x128x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_values : Ref sig .tc := ⟨.hbm, 10, rfl⟩
abbrev main_indices : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_14 : Ref sig .tc := ⟨.hbm, 78, rfl⟩
abbrev main_call0_v0 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_16 : Ref sig .tc := ⟨.hbm, 135, rfl⟩
abbrev main_v110 : Ref sig .tc := ⟨.hbm, 136, rfl⟩
abbrev main_c_17 : Ref sig .tc := ⟨.hbm, 137, rfl⟩
abbrev main_v111 : Ref sig .tc := ⟨.hbm, 138, rfl⟩
abbrev main_v112 : Ref sig .tc := ⟨.hbm, 139, rfl⟩
abbrev main_c_18 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_19 : Ref sig .tc := ⟨.hbm, 146, rfl⟩
abbrev main_v118 : Ref sig .tc := ⟨.hbm, 147, rfl⟩
abbrev main_v119 : Ref sig .tc := ⟨.hbm, 148, rfl⟩
abbrev main_cst_20 : Ref sig .tc := ⟨.hbm, 149, rfl⟩
abbrev main_call1_v0 : Ref sig .tc := ⟨.hbm, 150, rfl⟩
abbrev main_v120 : Ref sig .tc := ⟨.hbm, 151, rfl⟩
abbrev main_v121 : Ref sig .tc := ⟨.hbm, 152, rfl⟩
abbrev main_cst_21 : Ref sig .tc := ⟨.hbm, 153, rfl⟩
abbrev main_v122 : Ref sig .tc := ⟨.hbm, 154, rfl⟩
abbrev main_cst_22 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_c_23 : Ref sig .tc := ⟨.hbm, 159, rfl⟩
abbrev main_v126 : Ref sig .tc := ⟨.hbm, 160, rfl⟩
abbrev main_v127 : Ref sig .tc := ⟨.hbm, 161, rfl⟩
abbrev main_c_24 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_cst_1 : Ref sig .tc := ⟨.hbm, 173, rfl⟩
abbrev main_call2_v8 : Ref sig .tc := ⟨.hbm, 174, rfl⟩
abbrev main_call2_cst_2 : Ref sig .tc := ⟨.hbm, 175, rfl⟩
abbrev main_call2_v9 : Ref sig .tc := ⟨.hbm, 176, rfl⟩
abbrev main_call2_v10 : Ref sig .tc := ⟨.hbm, 177, rfl⟩
abbrev main_call2_cst_3 : Ref sig .tc := ⟨.hbm, 178, rfl⟩
abbrev main_call2_v11 : Ref sig .tc := ⟨.hbm, 179, rfl⟩
abbrev main_call2_cst_4 : Ref sig .tc := ⟨.hbm, 180, rfl⟩
abbrev main_call2_call0_v0 : Ref sig .tc := ⟨.hbm, 181, rfl⟩
abbrev main_v128 : Ref sig .tc := ⟨.hbm, 182, rfl⟩
abbrev main_cst_25 : Ref sig .tc := ⟨.hbm, 183, rfl⟩
abbrev main_v129 : Ref sig .tc := ⟨.hbm, 184, rfl⟩
abbrev main_cst_26 : Ref sig .tc := ⟨.hbm, 185, rfl⟩
abbrev main_v130 : Ref sig .tc := ⟨.hbm, 186, rfl⟩
abbrev main_v131 : Ref sig .tc := ⟨.hbm, 187, rfl⟩
abbrev main_cst_27 : Ref sig .tc := ⟨.hbm, 188, rfl⟩
abbrev main_v132 : Ref sig .tc := ⟨.hbm, 189, rfl⟩
abbrev main_v133 : Ref sig .tc := ⟨.hbm, 190, rfl⟩
abbrev main_c_28 : Ref sig .tc := ⟨.hbm, 191, rfl⟩
abbrev main_call3_cst : Ref sig .tc := ⟨.hbm, 192, rfl⟩
abbrev main_call3_v0 : Ref sig .tc := ⟨.hbm, 193, rfl⟩
abbrev main_call3_v1 : Ref sig .tc := ⟨.hbm, 194, rfl⟩
abbrev main_call3_cst_0 : Ref sig .tc := ⟨.hbm, 195, rfl⟩
abbrev main_call3_v2 : Ref sig .tc := ⟨.hbm, 196, rfl⟩
abbrev main_call3_v3 : Ref sig .tc := ⟨.hbm, 197, rfl⟩
abbrev main_call3_v4 : Ref sig .tc := ⟨.hbm, 198, rfl⟩
abbrev main_call3_v5 : Ref sig .tc := ⟨.hbm, 199, rfl⟩
abbrev main_call3_v6 : Ref sig .tc := ⟨.hbm, 200, rfl⟩
abbrev main_call3_v7 : Ref sig .tc := ⟨.hbm, 201, rfl⟩
abbrev main_call3_cst_1 : Ref sig .tc := ⟨.hbm, 202, rfl⟩
abbrev main_call3_v8 : Ref sig .tc := ⟨.hbm, 203, rfl⟩
abbrev main_call3_cst_2 : Ref sig .tc := ⟨.hbm, 204, rfl⟩
abbrev main_call3_v9 : Ref sig .tc := ⟨.hbm, 205, rfl⟩
abbrev main_call3_v10 : Ref sig .tc := ⟨.hbm, 206, rfl⟩
abbrev main_call3_cst_3 : Ref sig .tc := ⟨.hbm, 207, rfl⟩
abbrev main_call3_v11 : Ref sig .tc := ⟨.hbm, 208, rfl⟩
abbrev main_call3_cst_4 : Ref sig .tc := ⟨.hbm, 209, rfl⟩
abbrev main_call3_call0_v0 : Ref sig .tc := ⟨.hbm, 210, rfl⟩
abbrev main_v134 : Ref sig .tc := ⟨.hbm, 211, rfl⟩
abbrev main_cst_29 : Ref sig .tc := ⟨.hbm, 212, rfl⟩
abbrev main_v135 : Ref sig .tc := ⟨.hbm, 213, rfl⟩
abbrev main_cst_30 : Ref sig .tc := ⟨.hbm, 214, rfl⟩
abbrev main_v136 : Ref sig .tc := ⟨.hbm, 215, rfl⟩
abbrev main_v137 : Ref sig .tc := ⟨.hbm, 216, rfl⟩
abbrev main_cst_31 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_32 : Ref sig .tc := ⟨.hbm, 221, rfl⟩
abbrev main_v141 : Ref sig .tc := ⟨.hbm, 222, rfl⟩

abbrev nD : Nat := 1
abbrev τ : Topo := Topo.v7x

variable {F : FTy → Type} [FloatOps F]
-- ==== Proof.Rows.lean ====
/- Stores of whole groups of rows, read back at an index: the value that a list of stores leaves in a buffer of rows is,
   row by row, the newest store that covers the row. -/
module

public import Idealize.ShloMosaic.Lib.Pointwise
public import Idealize.ShloMosaic.Lib.Pipeline.ValueKit
public import Idealize.ShloMosaic.Lib.Pipeline.Value

@[expose] public section

noncomputable section

open Idealize.ShloMosaic

namespace Cert.K

/-- The newest store covers rows `a … a + k - 1` of an `n`-row buffer: at a row inside it the buffer holds the stored
    value, at any other row what the older stores left. -/
theorem canon_rows {Val : EltTy → Type} [∀ e, Nonempty (Val e)] {e : EltTy} {n k p q a : ℕ}
    (inb : ∀ i, (![a, 0, 0] : Fin 3 → ℕ) i + (![k, p, q] : Fin 3 → ℕ) i ≤ (⟨3, ![n, p, q]⟩ : Shape).size i)
    (w : (⟨3, ![k, p, q]⟩ : Shape).Idx → Val e) (L : List (View.Piece Val (⟨3, ![n, p, q]⟩ : Shape) e))
    (r : Fin n) (b : Fin p) (c : Fin q) :
    View.canon (⟨Rect.unit (s := ⟨3, ![n, p, q]⟩) ![a, 0, 0] ![k, p, q] inb, w⟩ :: L) (ix3 r b c)
      = if h : a ≤ r.val ∧ r.val < a + k then w (ix3 ⟨r.val - a, by omega⟩ b c) else View.canon L (ix3 r b c) := by
  split_ifs with h
  · have hx : (Rect.unit (s := ⟨3, ![n, p, q]⟩) ![a, 0, 0] ![k, p, q] inb).emb (ix3 (⟨r.val - a, by omega⟩ : Fin k) b c) = ix3 r b c := by
      funext i
      apply Fin.ext
      fin_cases i
      · show a + 1 * (r.val - a) = r.val
        omega
      · show 0 + 1 * b.val = b.val
        omega
      · show 0 + 1 * c.val = c.val
        omega
    conv_lhs => rw [← hx]
    exact View.canon_cons_emb (Rect.unit (s := ⟨3, ![n, p, q]⟩) ![a, 0, 0] ![k, p, q] inb) w L _
  · refine View.canon_cons_of_not_mem _ L fun hm => h ?_
    have := (Rect.mem_set_unit (inb := inb)).mp hm 0
    exact this

/-- Two buffers of rows that agree row by row are equal; the left one is a list of stores. -/
theorem canon_eq_of {Val : EltTy → Type} [∀ e, Nonempty (Val e)] {e : EltTy} {n p q : ℕ}
    {L : List (View.Piece Val (⟨3, ![n, p, q]⟩ : Shape) e)} (G : (⟨3, ![n, p, q]⟩ : Shape).Idx → Val e)
    (h : ∀ r b c, View.canon L (ix3 r b c) = G (ix3 r b c)) : View.canon L = G :=
  funext fun y => by rw [eq_ix3 y]; exact h _ _ _

/-- A choice equals a value when both branches do. -/
theorem dite_eq_of {α : Type} {p : Prop} [Decidable p] {u : p → α} {v g : α} (hu : ∀ h : p, u h = g)
    (hv : ¬p → v = g) : dite p u (fun _ => v) = g := by
  split_ifs with h
  · exact hu h
  · exact hv h

end Cert.K

end
-- ==== Proof.KernelY.lean ====
/- The first output of the kernel's grid step: the convolution, computed on rows padded to a pitch of sixteen. -/
module

public import proofs.«01_k».proof.Proof.Gen.KernelIdeal.Frame
public import proofs.«01_k».proof.Proof.Rows
public import Idealize.ShloMosaic.Lib.Claim
public import Idealize.ShloMosaic.Lib.Pipeline.FrameTail
public import Idealize.ShloMosaic.Lib.Pipeline.ReadBack

@[expose] public section

set_option maxRecDepth 16384

noncomputable section
open Idealize.ShloMosaic Idealize.ShloMosaic.TcCoe Idealize.SL.Sem
namespace Cert.KernelIdeal.Y
open Cert.KernelIdeal Cert.KernelIdeal.Gen
open Cert.K (canon_eq_of dite_eq_of)

/-- The padded scratch as a function of the input rows: row `16 * (h + 1) + (w + 1)` holds pixel `(h, w)`, which is row
    `14 * h + w` of the input, and every other row is zero. -/
def padRow (x : FVec Ideal S196x32x128 .f32) : FVec Ideal S272x32x128 .bf16 := fun y =>
  if h : 16 ≤ (y 0).val ∧ (y 0).val < 240 ∧ 1 ≤ (y 0).val % 16 ∧ (y 0).val % 16 ≤ 14 then
    x (ix3 ⟨14 * ((y 0).val / 16 - 1) + ((y 0).val % 16 - 1), by omega⟩ (y 1) (y 2)) else 0

/-- One tap of the convolution at row `r`: the products of the rows `off` further down with matrix `k` of the weights. -/
def tap (x : FVec Ideal S196x32x128 .f32) (w : FVec Ideal S9x128x128 .bf16) (k : Fin 9) (off : ℕ) (hoff : off ≤ 34)
    (r : Fin 224) (b : Fin 32) (o : Fin 128) : EReal :=
  ∑ i : Fin 128, padRow x (ix3 ⟨off + r.val, by omega⟩ b i) * w (ix3 k o i)

/-- The nine taps added up, and the bias. -/
def convRow (x : FVec Ideal S196x32x128 .f32) (w : FVec Ideal S9x128x128 .bf16) (bias : FVec Ideal S1x128 .f32)
    (r : Fin 224) (b : Fin 32) (o : Fin 128) : EReal :=
  tap x w 0 0 (by omega) r b o + tap x w 1 1 (by omega) r b o + tap x w 2 2 (by omega) r b o
    + tap x w 3 16 (by omega) r b o + tap x w 4 17 (by omega) r b o + tap x w 5 18 (by omega) r b o
    + tap x w 6 32 (by omega) r b o + tap x w 7 33 (by omega) r b o + tap x w 8 34 (by omega) r b o
    + bias (ix2 0 o)

variable (m : (ℓ : Loc nD τ sig) → Buf (Elt Ideal) ℓ)

set_option maxHeartbeats 4000000 in
/-- What the kernel leaves in its first output block: row `14 * h + w` is row `16 * h + w` of the convolution. -/
theorem y_after (c : Dev nD) (t : Fin cfg0.N) : (outsAt0 (F := Ideal) m c t).1 = fun j =>
    convRow (iblk m c 0 t) (iblk m c 1 t) (iblk m c 2 t) ⟨16 * ((j 0).val / 14) + (j 0).val % 14, by have := (j 0).isLt; simp at this; omega⟩ (j 1) (j 2) := by
  unfold outsAt0
  dsimp only
  frame_open
  simp only [View.readCov_eq_canon', View.readAt_eq_ld, read_unread_whole]
  rw [canon_eq_of (n := 272) (p := 32) (q := 128) (padRow (iblk m c 0 t))]
  rotate_left
  · intro r b d
    simp only [Cert.K.canon_rows]
    generalize iblk m c 0 t = x
    iterate 14
      refine dite_eq_of (fun h => ?_) fun h => ?_
      · pointwise [k0_pay3, k0_pay4, k0_pay5, k0_pay6, k0_pay7, k0_pay8, k0_pay9, k0_pay10, k0_pay11, k0_pay12, k0_pay13, k0_pay14, k0_pay15, k0_pay16, k0_pay17, padRow]
        rw [dif_pos ⟨by omega, by omega, by omega, by omega⟩]
        congr 2
        apply Fin.ext
        simp only
        omega
    rw [dif_pos ⟨by omega, by omega⟩]
    pointwise [k0_pay2, padRow]
    rw [dif_neg (by omega)]
  simp only [k0_pay23, k0_pay24, k0_pay25, k0_pay26, k0_pay27, k0_pay28, k0_pay29, k0_pay30, k0_pay31, k0_pay32, k0_pay33, k0_pay34, k0_pay35, k0_pay36]
  generalize hY : k0_pay22 (F := Ideal) _ _ _ = Y
  trans fun j => Y (ix3 ⟨16 * ((j 0).val / 14) + (j 0).val % 14, by have := (j 0).isLt; simp at this; omega⟩ (j 1) (j 2))
  · rw [View.read_writes_junk_eq_canon]
    refine canon_eq_of (n := 196) (p := 32) (q := 128) _ fun r b d => ?_
    simp only [Cert.K.canon_rows]
    clear hY
    iterate 13
      refine dite_eq_of (fun h => ?_) fun h => ?_
      · pointwise []
        congr 2
        apply Fin.ext
        simp only
        omega
    rw [dif_pos ⟨by omega, by omega⟩]
    pointwise []
    congr 2
    apply Fin.ext
    simp only
    omega
  · funext j
    subst hY
    generalize iblk m c 0 t = x
    generalize iblk m c 1 t = w
    generalize iblk m c 2 t = bias
    generalize (⟨16 * ((j 0).val / 14) + (j 0).val % 14, _⟩ : Fin 224) = r
    pointwise [k0_pay22, k0_pay20, k0_pay18, k0_pay19, k0_pay21]
    simp only [convRow, tap, Nat.zero_add]
end Cert.KernelIdeal.Y

end
-- ==== Proof.KernelBlocks.lean ====
/- The blocks the grid step reads, at an index: each is an argument of the launch, reordered. -/
module

public import proofs.«01_k».proof.Proof.KernelY

@[expose] public section

set_option maxRecDepth 16384

noncomputable section
open Idealize.ShloMosaic Idealize.ShloMosaic.TcCoe Idealize.SL.Sem
namespace Cert.KernelIdeal.Y
open Cert.KernelIdeal Cert.KernelIdeal.Gen
variable (m : (ℓ : Loc nD τ sig) → Buf (Elt Ideal) ℓ)

/-- The host lays the images out pixel by pixel before the grid step. -/
theorem V_x (c : Dev nD) : V (F := Ideal) m c main_call0_v1
    = shapeCast S196x32x128 (transpose S14x14x32x128 [2, 3, 0, 1] (m ((c : Thread nD τ).loc main_arg0))
        transposes_S32x128x14x14_S14x14x32x128_2_3_0_1) shapeCasts_S14x14x32x128_S196x32x128 := by
  simp only [V, V0, List.flatten_cons, List.flatten_nil, List.append_nil]
  after_results
  rfl

/-- The host lays the first expert's weights out tap by tap before the grid step. -/
theorem V_w (c : Dev nD) : V (F := Ideal) m c main_call0_v6
    = truncf (F := Ideal) .bf16 (shapeCast S9x128x128 (shapeCast S3x3x128x128 (extractStridedSlice S1x3x3x128x128 ![0, 0, 0, 0, 0]
        (transpose S16x3x3x128x128 [0, 3, 4, 1, 2] (m ((c : Thread nD τ).loc main_arg2) : FVec Ideal S16x128x128x3x3 .f32)
          transposes_S16x128x128x3x3_S16x3x3x128x128_0_3_4_1_2) slices_S16x3x3x128x128_S1x3x3x128x128_0_0_0_0_0)
        shapeCasts_S1x3x3x128x128_S3x3x128x128) shapeCasts_S3x3x128x128_S9x128x128) bitsLt_bf16_f32 := by
  simp only [V, V0, List.flatten_cons, List.flatten_nil, List.append_nil]
  after_results
  rfl

/-- The host takes the first expert's bias before the grid step. -/
theorem V_b (c : Dev nD) : V (F := Ideal) m c main_call0_v9
    = shapeCast S1x128 (shapeCast S128 (extractStridedSlice S1x128 ![0, 0] (m ((c : Thread nD τ).loc main_arg3))
        slices_S16x128_S1x128_0_0) shapeCasts_S1x128_S128) shapeCasts_S128_S1x128 := by
  simp only [V, V0, List.flatten_cons, List.flatten_nil, List.append_nil]
  after_results
  rfl

/-- Row `r` of the images: pixel `(r / 14, r % 14)` of every image and channel. -/
theorem iblk0 (c : Dev nD) (t : Fin cfg0.N) (r : Fin 196) (b : Fin 32) (i : Fin 128) :
    iblk (F := Ideal) m c 0 t (ix3 r b i)
      = m ((c : Thread nD τ).loc main_arg0) (ix4 b i ⟨r.val / 14, by omega⟩ ⟨r.val % 14, by omega⟩) := by
  obtain rfl := fin_N0 t
  trans V (F := Ideal) m c main_call0_v1 (ix3 r b i)
  · blk_ext [iblk, show ∀ i, win0_0.index t0_0 i = 0 from fun _ => rfl]
  · rw [V_x]
    pointwise

/-- Matrix `k` of the weights: tap `(k / 3, k % 3)` of the first expert. -/
theorem iblk1 (c : Dev nD) (t : Fin cfg0.N) (k : Fin 9) (o i : Fin 128) :
    iblk (F := Ideal) m c 1 t (ix3 k o i)
      = m ((c : Thread nD τ).loc main_arg2) (ix5 0 o i ⟨k.val / 3, by omega⟩ ⟨k.val % 3, by omega⟩) := by
  obtain rfl := fin_N0 t
  trans V (F := Ideal) m c main_call0_v6 (ix3 k o i)
  · blk_ext [iblk, show ∀ i, win0_1.index t0_0 i = 0 from fun _ => rfl]
  · rw [V_w]
    pointwise
    done

/-- The bias is the first expert's. -/
theorem iblk2 (c : Dev nD) (t : Fin cfg0.N) (o : Fin 128) :
    iblk (F := Ideal) m c 2 t (ix2 0 o) = m ((c : Thread nD τ).loc main_arg3) (ix2 0 o) := by
  obtain rfl := fin_N0 t
  trans V (F := Ideal) m c main_call0_v9 (ix2 0 o)
  · blk_ext [iblk, show ∀ i, win0_2.index t0_0 i = 0 from fun _ => rfl]
  · rw [V_b]
    pointwise
    done

/-- The gate's weights are read as launched. -/
theorem iblk3 (c : Dev nD) (t : Fin cfg0.N) : iblk (F := Ideal) m c 3 t = m ((c : Thread nD τ).loc main_arg1) := by
  obtain rfl := fin_N0 t
  blk_ext! [iblk, show ∀ i, win0_3.index t0_0 i = 0 from fun _ => rfl]

end Cert.KernelIdeal.Y

end
-- ==== Proof.Spec.lean ====
/- The mathematics both programs compute, on plain functions of indices: the convolution of one image with one expert. -/
module

public import Idealize.ShloMosaic.Lib.Pointwise

@[expose] public section

noncomputable section

namespace Cert.K

/-- A channel of an image with a border of zeros one pixel wide. -/
def pad (x : Fin 14 → Fin 14 → EReal) (h w : ℕ) : EReal :=
  if hw : 1 ≤ h ∧ h ≤ 14 ∧ 1 ≤ w ∧ w ≤ 14 then x ⟨h - 1, by omega⟩ ⟨w - 1, by omega⟩ else 0

/-- One tap of a convolution at one pixel: the sum over the channels. -/
def tapAt (x : Fin 128 → Fin 14 → Fin 14 → EReal) (wt : Fin 128 → Fin 3 → Fin 3 → EReal) (dh dw : Fin 3)
    (h w : Fin 14) : EReal :=
  ∑ i : Fin 128, wt i dh dw * pad (x i) (h.val + dh.val) (w.val + dw.val)

/-- A convolution at one pixel: the nine taps, and the bias. -/
def convAt (x : Fin 128 → Fin 14 → Fin 14 → EReal) (wt : Fin 128 → Fin 3 → Fin 3 → EReal) (bias : EReal)
    (h w : Fin 14) : EReal :=
  tapAt x wt 0 0 h w + tapAt x wt 0 1 h w + tapAt x wt 0 2 h w
    + tapAt x wt 1 0 h w + tapAt x wt 1 1 h w + tapAt x wt 1 2 h w
    + tapAt x wt 2 0 h w + tapAt x wt 2 1 h w + tapAt x wt 2 2 h w
    + bias

end Cert.K

end
-- ==== Proof.KernelRun.lean ====
/- The kernel's run: both results as the host hands them on, and the first result as the convolution. -/
module

public import proofs.«01_k».proof.Proof.KernelBlocks
public import proofs.«01_k».proof.Proof.Spec
public import Idealize.ShloMosaic.Lib.Claim
public import Idealize.ShloMosaic.Lib.Pipeline.FrameTail

@[expose] public section

set_option maxRecDepth 16384

noncomputable section
open Idealize.ShloMosaic Idealize.ShloMosaic.TcCoe Idealize.SL.Sem
namespace Cert.KernelIdeal.Y
open Cert.KernelIdeal Cert.KernelIdeal.Gen
variable (m : (ℓ : Loc nD τ sig) → Buf (Elt Ideal) ℓ) (ρ : Dev nD → PrngReg)

/-- After the grid step the first output array holds the step's first output block. -/
theorem arr4 (c : Dev nD) : (dats (F := Ideal) m 0 c).arrAt 4 (cfgs 0).N = (outsAt0 (F := Ideal) m c t0_0).1 := by
  refine (dats m 0 c).arrAt_eq_of_covers 4 _ (by decide +kernel) fun t hf y => ?_
  obtain rfl := fin_N0 t
  rw [after0_4]
  blk_ext [show ∀ i, win0_4.index t0_0 i = 0 from fun _ => rfl]

/-- After the grid step the second output array holds the step's second output block. -/
theorem arr5 (c : Dev nD) : (dats (F := Ideal) m 0 c).arrAt 5 (cfgs 0).N = (outsAt0 (F := Ideal) m c t0_0).2 := by
  refine (dats m 0 c).arrAt_eq_of_covers 5 _ (by decide +kernel) fun t hf y => ?_
  obtain rfl := fin_N0 t
  rw [after0_5]
  blk_ext [show ∀ i, win0_5.index t0_0 i = 0 from fun _ => rfl]

/-- The kernel's run: the results are the two output blocks, the first one reordered. -/
theorem kernel_run :
    θ_run defs (onTc (τ := τ) (main (F := Ideal))) (s₀ m ρ) (fun r => ∀ c : Dev nD,
      r.2.mem ((c : Thread nD τ).loc main_v0_0)
          = transpose S32x128x14x14 [2, 3, 0, 1] (shapeCast S14x14x32x128 (outsAt0 (F := Ideal) m c t0_0).1
              shapeCasts_S196x32x128_S14x14x32x128) transposes_S14x14x32x128_S32x128x14x14_2_3_0_1
      ∧ r.2.mem ((c : Thread nD τ).loc main_v0_1) = shapeCast S_ (outsAt0 (F := Ideal) m c t0_0).2 shapeCasts_S1x1_S_) := by
  run_from Gen.run_main m ρ
  · unfold Pipeline.afterTail₀
    simp only [List.flatten_cons, List.flatten_nil, List.append_nil]
    after_results
    rw [← arr4 m c]
    erw [Pipeline.withArrays_arr (cfgs 0).spec winFacts0.arr_inj c _ _ 4]
    rfl
  · unfold Pipeline.afterTail₀
    simp only [List.flatten_cons, List.flatten_nil, List.append_nil]
    after_results
    rw [← arr5 m c]
    erw [Pipeline.withArrays_arr (cfgs 0).spec winFacts0.arr_inj c _ _ 5]
    rfl

/-- The padded rows at an index. -/
theorem padRow_ix3 (x : FVec Ideal S196x32x128 .f32) (r : Fin 272) (b : Fin 32) (i : Fin 128) : padRow x (ix3 r b i) =
  if h : 16 ≤ r.val ∧ r.val < 240 ∧ 1 ≤ r.val % 16 ∧ r.val % 16 ≤ 14 then
    x (ix3 ⟨14 * (r.val / 16 - 1) + (r.val % 16 - 1), by omega⟩ b i) else 0 := rfl

/-- A tap of the kernel, on padded rows, is a tap of the convolution, on bordered images. -/
theorem tap_eq (c : Dev nD) (k : Fin 9) (off : ℕ) (hoff : off ≤ 34) (h w : Fin 14) (b : Fin 32) (o : Fin 128)
    (dh dw : Fin 3)    (hk : k.val = 3 * dh.val + dw.val) (ho : off = 16 * dh.val + dw.val) :
    tap (iblk m c 0 t0_0) (iblk m c 1 t0_0) k off hoff ⟨16 * h.val + w.val, by omega⟩ b o
      = Cert.K.tapAt (fun i h w => m ((c : Thread nD τ).loc main_arg0) (ix4 b i h w))
          (fun i dh dw => m ((c : Thread nD τ).loc main_arg2) (ix5 0 o i dh dw)) dh dw h w := by
  unfold tap Cert.K.tapAt
  refine Finset.sum_congr rfl fun i _ => ?_
  rw [iblk1, mul_comm]
  congr 1
  · congr 2 <;> apply Fin.ext <;> simp only <;> omega
  · subst ho
    rw [padRow_ix3]
    unfold Cert.K.pad
    by_cases hin : 1 ≤ h.val + dh.val ∧ h.val + dh.val ≤ 14 ∧ 1 ≤ w.val + dw.val ∧ w.val + dw.val ≤ 14
    · rw [dif_pos hin, dif_pos ⟨by simp only; omega, by simp only; omega, by simp only; omega, by simp only; omega⟩, iblk0]
      congr 2 <;> apply Fin.ext <;> simp only <;> omega
    · rw [dif_neg hin, dif_neg (by simp only; omega)]

/-- The kernel's first result at an index: the convolution with the first expert. -/
theorem y_value (c : Dev nD) (b : Fin 32) (o : Fin 128) (h w : Fin 14) :
    transpose S32x128x14x14 [2, 3, 0, 1] (shapeCast S14x14x32x128 (outsAt0 (F := Ideal) m c t0_0).1 shapeCasts_S196x32x128_S14x14x32x128) transposes_S14x14x32x128_S32x128x14x14_2_3_0_1 (ix4 b o h w)
     = Cert.K.convAt (fun i h w => m ((c : Thread nD τ).loc main_arg0) (ix4 b i h w))
          (fun i dh dw => m ((c : Thread nD τ).loc main_arg2) (ix5 0 o i dh dw)) (m ((c : Thread nD τ).loc main_arg3) (ix2 0 o)) h w := by
  rw [y_after]
  pointwise
  refine (congrArg (fun r => convRow _ _ _ r b o) (Fin.ext ?_ : _ = (⟨16 * h.val + w.val, by omega⟩ : Fin 224))).trans ?_
  · simp only
    omega
  unfold convRow Cert.K.convAt
  rw [iblk2]
  simp only [tap_eq m c 0 0 _ h w b o 0 0 rfl rfl, tap_eq m c 1 1 _ h w b o 0 1 rfl rfl, tap_eq m c 2 2 _ h w b o 0 2 rfl rfl, tap_eq m c 3 16 _ h w b o 1 0 rfl rfl, tap_eq m c 4 17 _ h w b o 1 1 rfl rfl, tap_eq m c 5 18 _ h w b o 1 2 rfl rfl, tap_eq m c 6 32 _ h w b o 2 0 rfl rfl, tap_eq m c 7 33 _ h w b o 2 1 rfl rfl, tap_eq m c 8 34 _ h w b o 2 2 rfl rfl]
end Cert.KernelIdeal.Y
end
-- ==== Proof.TopTwo.lean ====
module

public import Idealize.ShloMosaic.Lib.Pointwise
public import Idealize.ShloMosaic.Lib.IdealHost
public import Idealize.ShloMosaic.Lib.WordCmp
public import Idealize.ShloMosaic.Lib.PlanTiles.StableSort

/-!
# The two greatest entries of a row of sixteen

Among equal entries the lower index comes first. A stable descending sort finds the two entries at
its first two positions; two passes of "take the greatest, then the lowest index that has it" find the same two.
-/

@[expose] public section

noncomputable section
open Idealize.ShloMosaic
namespace Cert.K

/-- `i` comes before `k`: its entry is greater, or equal with the lower index. -/
def Before (L : Fin 16 → EReal) (i k : Fin 16) : Prop := L k < L i ∨ (L k = L i ∧ i < k)

/-- `i` is the index of the greatest entry, the lowest such index. -/
def First (L : Fin 16 → EReal) (i : Fin 16) : Prop := ∀ k, k ≠ i → Before L i k

/-- `i₁` comes first in the row and `i₂` second. -/
structure TopTwo (L : Fin 16 → EReal) (i₁ i₂ : Fin 16) : Prop where
  ne : i₂ ≠ i₁
  first : First L i₁
  second : ∀ k, k ≠ i₁ → k ≠ i₂ → Before L i₂ k

/-- Of two indices one comes first. -/
theorem Before.asymm {L : Fin 16 → EReal} {i k : Fin 16} (h : Before L i k) : ¬ Before L k i := by
  rcases h with h | ⟨h, h'⟩ <;> rintro (q | ⟨q, q'⟩)
  · exact absurd (h.trans q) (lt_irrefl _)
  · exact absurd (q ▸ h) (lt_irrefl _)
  · exact absurd (h ▸ q) (lt_irrefl _)
  · exact absurd (h'.trans q') (lt_irrefl _)

/-- What comes before is no less. -/
theorem Before.le {L : Fin 16 → EReal} {i k : Fin 16} (h : Before L i k) : L k ≤ L i := by
  rcases h with h | ⟨h, -⟩
  · exact h.le
  · exact h.le

/-- The first entry is at least every entry. -/
theorem First.le {L : Fin 16 → EReal} {i : Fin 16} (h : First L i) (k : Fin 16) : L k ≤ L i := by
  by_cases e : k = i
  · rw [e]
  · exact (h k e).le

/-- Only one index comes first and only one second. -/
theorem TopTwo.unique {L : Fin 16 → EReal} {i₁ i₂ j₁ j₂ : Fin 16} (h : TopTwo L i₁ i₂) (q : TopTwo L j₁ j₂) :
    i₁ = j₁ ∧ i₂ = j₂ := by
  have e : i₁ = j₁ := by
    by_contra ne
    exact (h.first j₁ (Ne.symm ne)).asymm (q.first i₁ ne)
  subst e
  refine ⟨rfl, ?_⟩
  by_contra ne
  exact (h.second j₂ q.ne (Ne.symm ne)).asymm (q.second i₂ h.ne ne)

/-- How many entries are below entry `i`. -/
def rank (L : Fin 16 → EReal) (i : Fin 16) : ℕ := (Finset.univ.filter fun j => L j < L i).card

/-- Entries compare as their ranks do. -/
theorem rank_lt (L : Fin 16 → EReal) (i k : Fin 16) : rank L i < rank L k ↔ L i < L k := by
  constructor
  · intro h
    by_contra q
    refine absurd (Finset.card_le_card (fun j hj => ?_) : rank L k ≤ rank L i) (not_le.2 h)
    rw [Finset.mem_filter] at hj ⊢
    exact ⟨hj.1, hj.2.trans_le (not_lt.1 q)⟩
  · intro h
    refine Finset.card_lt_card ⟨fun j hj => ?_, fun q => ?_⟩
    · rw [Finset.mem_filter] at hj ⊢
      exact ⟨hj.1, hj.2.trans h⟩
    · have := q (Finset.mem_filter.2 ⟨Finset.mem_univ i, h⟩)
      exact absurd (Finset.mem_filter.1 this).2 (lt_irrefl _)

/-- Where the stable descending sort of the row finds the entry it puts at position `k`. -/
@[irreducible] def pos (L : Fin 16 → EReal) (k : Fin 16) : Fin 16 :=
  sortedFrom (fun i j => FloatOps.cmpfTotal (F := Ideal) (φ := .f32) .gt (L i) (L j) == 1#1) k

/-- What the stable descending sort puts earlier comes before what it puts later. -/
theorem pos_before (L : Fin 16 → EReal) (i j : Fin 16) (h : i < j) : Before L (pos L i) (pos L j) := by
  have e : pos L = sortedFrom (fun x y => decide (rank L y < rank L x)) := by
    funext k
    unfold pos
    refine congrFun (sortedFrom_congr _ _ fun x y _ => ?_) k
    rw [Ideal.cmpfTotal_def]
    simp only [CmpDirection.ordered, Ideal.cmp, rank_lt]
    by_cases q : L y < L x <;> simp [q]
  have p := PlanTiles.pairwise_stableSort_lex (rank L) (· < ·) (List.finRange 16) (List.pairwise_lt_finRange 16)
  have := List.pairwise_iff_getElem.1 p i.val j.val
    (by rw [length_stableSort, List.length_finRange]; exact i.isLt)
    (by rw [length_stableSort, List.length_finRange]; exact j.isLt) h
  rw [e]
  have b : PlanTiles.Lex (rank L) (· < ·) (sortedFrom (fun x y => decide (rank L y < rank L x)) i)
    (sortedFrom (fun x y => decide (rank L y < rank L x)) j) := this
  rcases b with b | ⟨b, b'⟩
  · exact Or.inl ((rank_lt L _ _).1 b)
  · refine Or.inr ⟨le_antisymm (not_lt.1 fun q => ?_) (not_lt.1 fun q => ?_), b'⟩
    · exact absurd ((rank_lt L _ _).2 q) (by omega)
    · exact absurd ((rank_lt L _ _).2 q) (by omega)

/-- The first two positions of the sort hold the first and the second entry. -/
theorem topTwo_pos (L : Fin 16 → EReal) : TopTwo L (pos L 0) (pos L 1) := by
  have inj : Function.Injective (pos L) := by
    unfold pos; exact sortedFrom_injective _
  have sur : Function.Surjective (pos L) := by
    unfold pos; exact sortedFrom_surjective _
  refine ⟨fun q => absurd (inj q) (by decide), fun k hk => ?_, fun k h0 h1 => ?_⟩
  · obtain ⟨j, rfl⟩ := sur k
    refine pos_before L 0 j (Fin.pos_iff_ne_zero.2 fun q => hk (by rw [q]))
  · obtain ⟨j, rfl⟩ := sur k
    refine pos_before L 1 j ?_
    have a : j ≠ 0 := fun q => h0 (by rw [q])
    have b : j ≠ 1 := fun q => h1 (by rw [q])
    rw [Fin.lt_def]
    have a' : j.val ≠ 0 := fun q => a (Fin.ext q)
    have b' : j.val ≠ 1 := fun q => b (Fin.ext q)
    show 1 < j.val
    omega

/-- The greatest entry is the first one's. -/
theorem First.fold_max {L : Fin 16 → EReal} {i : Fin 16} (h : First L i) : Finset.fold max ⊥ L Finset.univ = L i := by
  refine le_antisymm (Finset.fold_max_le _ |>.2 ⟨bot_le, fun k _ => h.le k⟩) ?_
  exact Finset.le_fold_max _ |>.2 (Or.inr ⟨i, Finset.mem_univ i, le_rfl⟩)

/-- The signed minimum of words is at most the start and at most every word, and is one of them. -/
theorem fold_minsi {ι : Type} (s : Finset ι) (z : BitVec 32) (f : ι → BitVec 32) :
    (∀ k ∈ s, (Finset.fold IntOp.minsi z f s).toInt ≤ (f k).toInt) ∧
      (Finset.fold IntOp.minsi z f s = z ∨ ∃ k ∈ s, Finset.fold IntOp.minsi z f s = f k) := by
  classical
  induction s using Finset.induction_on with
  | empty => exact ⟨by simp, Or.inl (Finset.fold_empty)⟩
  | insert a s ha ih =>
    rw [Finset.fold_insert ha]
    unfold IntOp.minsi
    split
    · next h =>
      rw [BitVec.slt_iff_toInt_lt] at h
      refine ⟨fun k hk => ?_, Or.inr ⟨a, Finset.mem_insert_self a s, rfl⟩⟩
      rcases Finset.mem_insert.1 hk with rfl | hk
      · exact le_rfl
      · exact h.le.trans (ih.1 k hk)
    · next h =>
      rw [BitVec.slt_iff_toInt_lt, not_lt] at h
      refine ⟨fun k hk => ?_, ?_⟩
      · rcases Finset.mem_insert.1 hk with rfl | hk
        · exact h
        · exact ih.1 k hk
      · rcases ih.2 with q | ⟨k, hk, q⟩
        · exact Or.inl q
        · exact Or.inr ⟨k, Finset.mem_insert_of_mem hk, q⟩

/-- The lowest index of an entry equal to the greatest is the first one's. -/
theorem First.fold_index {L : Fin 16 → EReal} {i : Fin 16} (h : First L i) :
    Finset.fold IntOp.minsi 2147483647#32 (fun k : Fin 16 => if L k = L i then BitVec.ofNat 32 k.val else 16#32) Finset.univ
      = BitVec.ofNat 32 i.val := by
  obtain ⟨le, q⟩ := fold_minsi Finset.univ 2147483647#32 (fun k : Fin 16 => if L k = L i then BitVec.ofNat 32 k.val else 16#32)
  have le := le i (Finset.mem_univ i)
  rw [if_pos rfl, WordCmp.toInt_ofNat_of_lt (by have := i.isLt; omega)] at le
  have hi := i.isLt
  rcases q with q | ⟨k, -, q⟩
  · rw [q] at le
    have : (2147483647#32 : BitVec 32).toInt = 2147483647 := by decide
    omega
  · rw [q] at le ⊢
    by_cases e : L k = L i
    · rw [if_pos e] at le ⊢
      rw [WordCmp.toInt_ofNat_of_lt (by have := k.isLt; omega)] at le
      by_cases n : k = i
      · rw [n]
      · rcases h k n with b | ⟨-, b⟩
        · exact absurd (e ▸ b) (lt_irrefl _)
        · rw [Fin.lt_def] at b; omega
    · rw [if_neg e] at le
      have : (16#32 : BitVec 32).toInt = 16 := by decide
      omega

/-- The row with its first entry struck out. -/
def struck (L : Fin 16 → EReal) (i : Fin 16) : Fin 16 → EReal := fun k => if k = i then ⊥ else L k

/-- The second entry is the first of the row with its first entry struck out. -/
theorem TopTwo.first_struck {L : Fin 16 → EReal} (hL : ∀ k, ⊥ < L k) {i₁ i₂ : Fin 16} (h : TopTwo L i₁ i₂) :
    First (struck L i₁) i₂ := by
  intro k hk
  unfold Before struck
  rw [if_neg h.ne]
  by_cases e : k = i₁
  · rw [if_pos e]
    exact Or.inl (hL i₂)
  · rw [if_neg e]
    exact h.second k e hk

end Cert.K
end
-- ==== Proof.Gates.lean ====
module

public import proofs.«01_k».proof.Proof.TopTwo

/-!
# The gates of a row and the load-balancing loss

The softmax of the two greatest of sixteen logits, put back at their indices, and the squared
coefficient of variation of the column sums.
-/

@[expose] public section

noncomputable section
open Idealize.ShloMosaic
namespace Cert.K

/-- The logit of one image `x` and expert `e`: the image's pooled channel means times the gate weights. -/
def logit (x : Fin 128 → Fin 14 → Fin 14 → EReal) (g : Fin 128 → Fin 16 → EReal) (e : Fin 16) : EReal :=
  ∑ d, (∑ h, ∑ w, x d h w) * ((196⁻¹ : ℝ) : EReal) * g d e

/-- The gate of the greater of two logits `a ≥ b`. -/
def gate₁ (a b : EReal) : EReal := Ideal.div 1 (1 + Ideal.exp (b - a))

/-- The gate of the lesser. -/
def gate₂ (a b : EReal) : EReal := Ideal.exp (b - a) * gate₁ a b

/-- The gate of index `e` in a row whose two greatest entries are at `i₁` and `i₂`. -/
def gateAt (L : Fin 16 → EReal) (i₁ i₂ e : Fin 16) : EReal :=
  (if e = i₁ then gate₁ (L i₁) (L i₂) else 0) + (if e = i₂ then gate₂ (L i₁) (L i₂) else 0)

/-- The gates of a row: `gateAt` at the first and second entry. -/
def gates (L : Fin 16 → EReal) (e : Fin 16) : EReal := gateAt L (pos L 0) (pos L 1) e

/-- The gates of a row, at any pair of indices that come first and second. -/
theorem TopTwo.gates_eq {L : Fin 16 → EReal} {i₁ i₂ : Fin 16} (h : TopTwo L i₁ i₂) (e : Fin 16) :
    gateAt L i₁ i₂ e = gates L e := by
  obtain ⟨h₁, h₂⟩ := h.unique (topTwo_pos L)
  rw [gates, h₁, h₂]

/-- The mean of sixteen entries. -/
def mean (v : Fin 16 → EReal) : EReal := Ideal.div (∑ e, v e) (Ideal.ofBits .f32 0x41800000#32)

/-- The squared coefficient of variation of sixteen entries, the variance with divisor 15 and `1e-10` added to the squared mean. -/
def cv (v : Fin 16 → EReal) : EReal :=
  Ideal.div (Ideal.div (∑ e, (v e - mean v) * (v e - mean v)) (Ideal.ofBits .f32 0x41700000#32))
    (mean v * mean v + Ideal.ofBits .f32 0x2EDBE6FF#32)

/-- The loss of a gate matrix: the variations of its column sums and of its columns' counts of positive entries, times `1e-2`. -/
def loss (G : Fin 32 → Fin 16 → EReal) : EReal :=
  (cv (fun e => ∑ b, G b e) + cv (fun e => ∑ b, if 0 < G b e then 1 else 0)) * Ideal.ofBits .f32 0x3C23D70A#32

/-- The single-precision word of minus infinity. -/
theorem neg_inf : Ideal.ofBits .f32 0xFF800000#32 = ⊥ := by
  simp [Ideal.ofBits, Ideal.ieee]

/-- The gates of real logits are real, add up to one. -/
theorem gates_real (a b : ℝ) : ∃ p q : ℝ, gate₁ a b = p ∧ gate₂ a b = q ∧ p + q = 1 := by
  have h : (1 + Real.exp (b - a)) ≠ 0 := by positivity
  refine ⟨1 / (1 + Real.exp (b - a)), Real.exp (b - a) * (1 / (1 + Real.exp (b - a))), ?_, ?_, ?_⟩
  · unfold gate₁
    rw [← EReal.coe_sub, Ideal.exp_coe, ← EReal.coe_one, ← EReal.coe_add, Ideal.div_coe h, ← EReal.coe_mul, one_mul]
  · unfold gate₂ gate₁
    rw [← EReal.coe_sub, Ideal.exp_coe, ← EReal.coe_one, ← EReal.coe_add, Ideal.div_coe h, ← EReal.coe_mul, one_mul, ← EReal.coe_mul]
  · field_simp

/-- A softmax over two real logits, the greater subtracted from both, gives the two gates. -/
theorem softmax_eq (a b : ℝ) :
    Ideal.div (Ideal.exp ((a : EReal) - a)) (Ideal.exp ((a : EReal) - a) + Ideal.exp ((b : EReal) - a)) = gate₁ a b ∧
      Ideal.div (Ideal.exp ((b : EReal) - a)) (Ideal.exp ((a : EReal) - a) + Ideal.exp ((b : EReal) - a)) = gate₂ a b := by
  have e : Ideal.exp ((a : EReal) - a) = 1 := by
    rw [← EReal.coe_sub, Ideal.exp_coe, sub_self, Real.exp_zero, EReal.coe_one]
  have n : (1 : EReal) + Ideal.exp ((b : EReal) - a) ≠ 0 := by
    rw [← EReal.coe_sub, Ideal.exp_coe, ← EReal.coe_one, ← EReal.coe_add]
    have : (1 + Real.exp (b - a)) ≠ 0 := by positivity
    exact_mod_cast this
  rw [e]
  exact ⟨rfl, (Ideal.mul_one_div n).symm⟩

end Cert.K
end
-- ==== Proof.KernelLoss.lean ====
module

public import proofs.«01_k».proof.Proof.KernelRun
public import proofs.«01_k».proof.Proof.Gates
public import Idealize.ShloMosaic.Lib.Pointwise

/-!
# The kernel's second result

The body's loss, read element by element, is the specification's `loss` of the gates of the images.
-/

@[expose] public section

set_option maxRecDepth 16384

noncomputable section
open Idealize.ShloMosaic Idealize.ShloMosaic.TcCoe Idealize.SL.Sem
namespace Cert.KernelIdeal.Y
open Cert.KernelIdeal Cert.KernelIdeal.Gen Cert.K

/-- The logit of row `b` and expert `e`, from the input block and the gate weights. -/
def logitRow (x : Vec Ideal S196x32x128 .f32) (g : Vec Ideal S128x16 .f32) (b : Fin 32) (e : Fin 16) : EReal :=
  ∑ d : Fin 128, (∑ r : Fin 196, x (ix3 r b d)) * ((196⁻¹ : ℝ) : EReal) * g (ix2 d e)

/-- The logits the kernel computes: pooled means times gate weights. -/
theorem pay37_at (x : Vec Ideal S196x32x128 .f32) (g : Vec Ideal S128x16 .f32) (b : Fin 32) (e : Fin 16) :
    (k0_pay37 (F := Ideal) x g) (ix2 b e) = logitRow x g b e := by
  have q : (Named.named κ "inv_hw" 1000812293#32 : Ideal .f32) = ((196⁻¹ : ℝ) : EReal) := IdealRules.named_const.ideal_named_scalar _ _ _ _ rfl
  pointwise [k0_pay37, q]
  rfl

/-- Of one row: the column holding the greatest logit. -/
theorem pay38_at (x : Vec Ideal S196x32x128 .f32) (g : Vec Ideal S128x16 .f32) (b : Fin 32) {i : Fin 16} (h : First (logitRow x g b) i) :
    (k0_pay38 (F := Ideal) x g) (ix2 b 0) = logitRow x g b i := by
  pointwise [k0_pay38, pay37_at]
  rw [neg_inf]
  exact h.fold_max

/-- The index of the greatest logit, the least one where several are greatest. -/
theorem pay39_at (x : Vec Ideal S196x32x128 .f32) (g : Vec Ideal S128x16 .f32) (b : Fin 32) {i : Fin 16} (h : First (logitRow x g b) i) :
    (k0_pay39 (F := Ideal) x g) (ix2 b 0) = BitVec.ofNat 32 i.val := by
  pointwise [k0_pay39, pay37_at, pay38_at x g b h]
  exact h.fold_index

/-- That index, repeated along the row. -/
theorem pay40_at (x : Vec Ideal S196x32x128 .f32) (g : Vec Ideal S128x16 .f32) (b : Fin 32) (e : Fin 16) {i : Fin 16} (h : First (logitRow x g b) i) :
    (k0_pay40 (F := Ideal) x g) (ix2 b e) = BitVec.ofNat 32 i.val := by
  pointwise [k0_pay40, pay39_at x g b h]

/-- An index word equals another exactly when the indices are equal. -/
theorem index_eq (k i : Fin 16) : IntOp.cmpi .eq (BitVec.ofNat 32 k.val) (BitVec.ofNat 32 i.val) = BitVec.ofBool (decide (k = i)) := by
  rw [WordCmp.cmpi_eq_eq]
  congr 2
  rw [WordCmp.ofNat_eq_ofNat_iff (by omega) (by omega), Fin.ext_iff]

/-- A bit widened and read as a number is one or zero. -/
theorem bit_value (p : Prop) [Decidable p] :
    (FloatOps.sitofp FTy.f32 (BitVec.setWidth 32 (BitVec.ofBool (decide p))) : Ideal .f32) = if p then (1 : EReal) else 0 := by
  by_cases h : p
  · simp only [h, decide_true, if_true]
    show ((((BitVec.setWidth 32 (BitVec.ofBool true)).toInt : ℝ)) : EReal) = 1
    rw [show (BitVec.setWidth 32 (BitVec.ofBool true)).toInt = 1 from by decide]
    simp
  · simp only [h, decide_false, if_false]
    show ((((BitVec.setWidth 32 (BitVec.ofBool false)).toInt : ℝ)) : EReal) = 0
    rw [show (BitVec.setWidth 32 (BitVec.ofBool false)).toInt = 0 from by decide]
    simp

/-- The gate matrix of the kernel's last stretch. -/
abbrev gateMat (x : Vec Ideal S196x32x128 .f32) (g : Vec Ideal S128x16 .f32) : FVec Ideal S32x16 .f32 :=
  k0_pay41 (F := Ideal) (k0_pay37 x g) (iota .tc S32x16 32 [1] iota_S32x16_d1_w32) (k0_pay38 x g) (k0_pay39 x g) (k0_pay40 x g)

/-- The matrix of gates at row `b` and expert `e`. -/
theorem gateMat_at (x : Vec Ideal S196x32x128 .f32) (g : Vec Ideal S128x16 .f32) (b : Fin 32) (e : Fin 16)
    (hL : ∀ k, ⊥ < logitRow x g b k) : gateMat x g (ix2 b e) = gates (logitRow x g b) e := by
  have t := topTwo_pos (logitRow x g b)
  have s := t.first_struck hL
  have m := s.fold_max
  have i := s.fold_index
  rw [← t.gates_eq]
  generalize pos (logitRow x g b) 0 = i₁ at *
  generalize pos (logitRow x g b) 1 = i₂ at *
  have f := t.first
  pointwise [gateMat, k0_pay41, pay37_at, pay38_at x g b f, pay39_at x g b f, pay40_at x g b _ f, index_eq, bit_value]
  simp only [neg_inf]
  have m' : Finset.fold max ⊥ (fun k => if k = i₁ then ⊥ else logitRow x g b k) Finset.univ = logitRow x g b i₂ := m.trans (if_neg t.ne)
  have i' : Finset.fold IntOp.minsi 2147483647#32 (fun k : Fin 16 => if (if k = i₁ then ⊥ else logitRow x g b k) = logitRow x g b i₂
      then BitVec.ofNat 32 k.val else 16#32) Finset.univ = BitVec.ofNat 32 i₂.val := by
    have q : struck (logitRow x g b) i₁ i₂ = logitRow x g b i₂ := if_neg t.ne
    rw [q] at i
    exact i
  rw [m', i', index_eq, bit_value]
  unfold gateAt gate₂ gate₁
  by_cases h₁ : e = i₁ <;> by_cases h₂ : e = i₂ <;> simp [h₁, h₂]

/-- The kernel's second result from the gate matrix: the loss. -/
theorem loss_at (x : Vec Ideal S196x32x128 .f32) (g : Vec Ideal S128x16 .f32) (hL : ∀ b k, ⊥ < logitRow x g b k) :
    k0_pay1 (F := Ideal)
      (k0_pay43 (k0_pay37 x g) (iota .tc S32x16 32 [1] iota_S32x16_d1_w32) (k0_pay38 x g) (k0_pay39 x g) (k0_pay40 x g))
      (k0_pay44 (k0_pay37 x g) (iota .tc S32x16 32 [1] iota_S32x16_d1_w32) (k0_pay38 x g) (k0_pay39 x g) (k0_pay40 x g))
      (k0_pay45 (k0_pay37 x g) (iota .tc S32x16 32 [1] iota_S32x16_d1_w32) (k0_pay38 x g) (k0_pay39 x g) (k0_pay40 x g)) (ix2 0 0)
      = loss fun b e => gates (logitRow x g b) e := by
  have q : ∀ b e, k0_pay41 (F := Ideal) (k0_pay37 x g) (iota .tc S32x16 32 [1] iota_S32x16_d1_w32) (k0_pay38 x g) (k0_pay39 x g) (k0_pay40 x g) (ix2 b e)
      = gates (logitRow x g b) e := fun b e => gateMat_at x g b e (hL b)
  pointwise [k0_pay1, k0_pay43, k0_pay44, k0_pay45, k0_pay42, q, bit_value]
  simp only [Finset.univ_unique, Finset.sum_singleton]
  rfl

variable (m : (ℓ : Loc nD τ sig) → Buf (Elt Ideal) ℓ)

/-- What the body leaves in the loss window. -/
theorem loss_after (c : Dev nD) (t : Fin cfg0.N) (hL : ∀ b k, ⊥ < logitRow (iblk m c 0 t) (iblk m c 3 t) b k) :
    (outsAt0 (F := Ideal) m c t).2 (ix2 0 0) = loss fun b e => gates (logitRow (iblk m c 0 t) (iblk m c 3 t) b) e := by
  rw [← loss_at _ _ hL]
  unfold outsAt0
  dsimp only
  frame_open
  simp only [View.readCov_eq_canon', View.readAt_eq_ld, read_unread_whole]
  rw [View.read_writes_junk_eq_canon, View.canon_unit_zero (by funext a; fin_cases a <;> rfl)]
  rw [View.ld_unit_zero (by funext a; fin_cases a <;> rfl), View.ld_unit_zero (by funext a; fin_cases a <;> rfl)]

/-- The rows of the input block are the pixels of the image, row by row: the logits are the specification's. -/
theorem logitRow_eq (c : Dev nD) (b : Fin 32) :
    logitRow (iblk m c 0 t0_0) (iblk m c 3 t0_0) b
      = logit (fun d h w => m (c.tc.loc main_arg0) (ix4 b d h w)) (fun d e => m (c.tc.loc main_arg1) (ix2 d e)) := by
  funext e
  unfold logitRow logit
  refine Finset.sum_congr rfl fun d _ => ?_
  rw [iblk3]
  congr 2
  rw [← Fintype.sum_prod_type']
  refine Fintype.sum_equiv (finProdFinEquiv (m := 14) (n := 14)).symm _ _ fun r => ?_
  rw [iblk0]
  rfl

/-- The scalar the kernel returns as its loss. -/
theorem loss_value (c : Dev nD)
    (hL : ∀ b k, ⊥ < logit (fun d h w => m (c.tc.loc main_arg0) (ix4 b d h w)) (fun d e => m (c.tc.loc main_arg1) (ix2 d e)) k) (j : S_.Idx) :
    shapeCast S_ (outsAt0 (F := Ideal) m c t0_0).2 shapeCasts_S1x1_S_ j
      = loss fun b => gates (logit (fun d h w => m (c.tc.loc main_arg0) (ix4 b d h w)) (fun d e => m (c.tc.loc main_arg1) (ix2 d e))) := by
  have q := loss_after m c t0_0 (fun b k => by rw [logitRow_eq]; exact hL b k)
  simp only [logitRow_eq] at q
  rw [← q]
  unfold shapeCast
  refine congrArg _ (funext fun a => ?_)
  fin_cases a <;> exact Subsingleton.elim (α := Fin 1) _ _
end Cert.KernelIdeal.Y
end
-- ==== Proof.RefIndex.lean ====
module

public import proofs.«01_k».proof.Proof.Gen.ReferenceIdeal.Run
public import proofs.«01_k».proof.Proof.Spec
public import Idealize.ShloMosaic.Lib.Pointwise
public import Idealize.ShloMosaic.Lib.Routing.OpsPair

/-!
# The reference's gathers and scatter

Where the slots of the reference read from and add to: slot `s` belongs to image `s / 2`.
-/

@[expose] public section

set_option maxRecDepth 16384

noncomputable section
open Idealize.ShloMosaic Idealize.ShloMosaic.TcCoe Idealize.SL.Sem
open Idealize.ShloMosaic.Routing (wrap_of_lt resultIdx?_eq_some)
namespace Cert.ReferenceIdeal.Y
open Cert.ReferenceIdeal Cert.ReferenceIdeal.Gen Cert.ReferenceIdeal.Value

variable (V0 : Valuation τ sig (Elt Ideal))

/-- The image number of a slot. -/
theorem v17_at (s : Fin 64) : res_main_v17 V0 (ix1 s) = BitVec.ofNat 32 (s.val / 2) := by
  pointwise [res_main_v17]

/-- The same after the wrap of negative indices, which changes nothing. -/
theorem bidx_at (s : Fin 64) :
   (broadcastInDim S64x1 ![0] bcast_S64_S64x1_0 (select (cmpi .slt (res_main_v17 V0) (broadcastInDim S64 ![] bcast_S_S64 (constantI S_ 32 0#32))) (addi (res_main_v17 V0) (broadcastInDim S64 ![] bcast_S_S64 (constantI S_ 32 32#32))) (res_main_v17 V0))) (ix2 s 0) = BitVec.ofNat 32 (s.val / 2) := by
  pointwise [v17_at]
  exact wrap_of_lt _ _ (by rw [BitVec.toNat_ofNat]; omega)

/-- The image a slot gathers is its own. -/
theorem gather_x_at (x : S32x128x14x14.Idx → EReal) (idx : IVec S64x1 32) (s : Fin 64) (i : Fin 128) (h w : Fin 14) (hi : idx (ix2 s 0) = BitVec.ofNat 32 (s.val / 2)) :
   Host.gather gather_S32x128x14x14_S64x1_S64x128x14x14_123_0_n_n_0_1_11281414 x idx (ix4 s i h w) = x (ix4 ⟨s.val / 2, by omega⟩ i h w) := by
  unfold Host.gather
  refine congrArg x (funext fun a => ?_)
  have e : (gather_S32x128x14x14_S64x1_S64x128x14x14_123_0_n_n_0_1_11281414).start (ix4 s i h w) idx 0 = s.val / 2 := by
    show min (idx _).toInt.toNat 31 = _
    rw [show (gather_S32x128x14x14_S64x1_S64x128x14x14_123_0_n_n_0_1_11281414).siIdx (ix4 s i h w) _ = ix2 s 0 from by ext a; fin_cases a <;> rfl]
    rw [hi, WordCmp.toInt_ofNat_of_lt (by omega)]
    omega
  fin_cases a
  · exact Fin.ext e
  · exact Fin.ext (Nat.zero_add _)
  · exact Fin.ext (Nat.zero_add _)
  · exact Fin.ext (Nat.zero_add _)

/-- The weights a slot gathers are some expert's. -/
theorem gather_w_at (x : S16x128x128x3x3.Idx → EReal) (idx : IVec S64x1 32) (s : Fin 64) (o i : Fin 128) (dh dw : Fin 3) : ∃ e : Fin 16, Host.gather gather_S16x128x128x3x3_S64x1_S64x128x128x3x3_1234_0_n_n_0_1_112812833 x idx (ix5 s o i dh dw) = x (ix5 e o i dh dw) := by
  unfold Host.gather
  refine ⟨(gather_S16x128x128x3x3_S64x1_S64x128x128x3x3_1234_0_n_n_0_1_112812833).operandIdx (ix5 s o i dh dw) idx 0, congrArg x (funext fun a => ?_)⟩
  fin_cases a
  · rfl
  · exact Fin.ext (Nat.zero_add _)
  · exact Fin.ext (Nat.zero_add _)
  · exact Fin.ext (Nat.zero_add _)
  · exact Fin.ext (Nat.zero_add _)

/-- The bias a slot gathers is some expert's. -/
theorem gather_b_at (x : S16x128.Idx → EReal) (idx : IVec S64x1 32) (s : Fin 64) (o : Fin 128) : ∃ e : Fin 16, Host.gather gather_S16x128_S64x1_S64x128_1_0_n_n_0_1_1128 x idx (ix2 s o) = x (ix2 e o) := by
  unfold Host.gather
  refine ⟨(gather_S16x128_S64x1_S64x128_1_0_n_n_0_1_1128).operandIdx (ix2 s o) idx 0, congrArg x (funext fun a => ?_)⟩
  fin_cases a
  · rfl
  · exact Fin.ext (Nat.zero_add _)

/-- A slot's pixel is added at its image's pixel. -/
theorem scatter_lands_at (idx : IVec S64x1 32) (s : Fin 64) (o o' : Fin 128) (h w h' w' : Fin 14) (b : Fin 32) (hi : idx (ix2 s 0) = BitVec.ofNat 32 (s.val / 2)) :
   (scatter_S32x128x14x14_S64x1_S64x128x14x14_123_0_0_1).resultIdx? (ix4 s o' h' w') idx = some (ix4 b o h w) ↔ s.val / 2 = b.val ∧ o' = o ∧ h' = h ∧ w' = w := by
  have e : (scatter_S32x128x14x14_S64x1_S64x128x14x14_123_0_0_1).start (ix4 s o' h' w') idx 0 = ((s.val / 2 : ℕ) : Int) := by
    show (idx _).toInt = _
    rw [show (scatter_S32x128x14x14_S64x1_S64x128x14x14_123_0_0_1).siIdx (ix4 s o' h' w') _ = ix2 s 0 from by ext a; fin_cases a <;> rfl]
    rw [hi, WordCmp.toInt_ofNat_of_lt (by omega)]
  have k0 : (scatter_S32x128x14x14_S64x1_S64x128x14x14_123_0_0_1).start (ix4 s o' h' w') idx 0 + ((scatter_S32x128x14x14_S64x1_S64x128x14x14_123_0_0_1).window (ix4 s o' h' w') 0 : Int) = ((s.val / 2 : ℕ) : Int) := by
    rw [e]; exact add_zero _
  have k1 : (scatter_S32x128x14x14_S64x1_S64x128x14x14_123_0_0_1).start (ix4 s o' h' w') idx 1 + ((scatter_S32x128x14x14_S64x1_S64x128x14x14_123_0_0_1).window (ix4 s o' h' w') 1 : Int) = (o'.val : Int) := zero_add _
  have k2 : (scatter_S32x128x14x14_S64x1_S64x128x14x14_123_0_0_1).start (ix4 s o' h' w') idx 2 + ((scatter_S32x128x14x14_S64x1_S64x128x14x14_123_0_0_1).window (ix4 s o' h' w') 2 : Int) = (h'.val : Int) := zero_add _
  have k3 : (scatter_S32x128x14x14_S64x1_S64x128x14x14_123_0_0_1).start (ix4 s o' h' w') idx 3 + ((scatter_S32x128x14x14_S64x1_S64x128x14x14_123_0_0_1).window (ix4 s o' h' w') 3 : Int) = (w'.val : Int) := zero_add _
  rw [resultIdx?_eq_some]
  constructor
  · intro q
    have q0 := (k0.symm.trans (q 0) : _ = (b.val : Int))
    have q1 := (k1.symm.trans (q 1) : _ = (o.val : Int))
    have q2 := (k2.symm.trans (q 2) : _ = (h.val : Int))
    have q3 := (k3.symm.trans (q 3) : _ = (w.val : Int))
    exact ⟨by omega, by omega, by omega, by omega⟩
  · rintro ⟨q, rfl, rfl, rfl⟩ a
    fin_cases a
    · exact k0.trans (by exact_mod_cast q)
    · exact k1
    · exact k2
    · exact k3

end Cert.ReferenceIdeal.Y
end
-- ==== Proof.Reals.lean ====
module

public import proofs.«01_k».proof.Proof.Spec
public import proofs.«01_k».proof.Proof.Gates

/-!
# Values that are real numbers

Sums and products of real numbers are real, so the logits and the convolution of real inputs are.
-/

@[expose] public section

noncomputable section
open Idealize.ShloMosaic
namespace Cert.K

/-- The extended real is a real number. -/
def IsReal (v : EReal) : Prop := ∃ r : ℝ, v = r

/-- A sum of reals is real. -/
theorem IsReal.add {a b : EReal} (ha : IsReal a) (hb : IsReal b) : IsReal (a + b) := by
  obtain ⟨r, rfl⟩ := ha
  obtain ⟨q, rfl⟩ := hb
  exact ⟨r + q, (EReal.coe_add r q).symm⟩

/-- A product of reals is real. -/
theorem IsReal.mul {a b : EReal} (ha : IsReal a) (hb : IsReal b) : IsReal (a * b) := by
  obtain ⟨r, rfl⟩ := ha
  obtain ⟨q, rfl⟩ := hb
  exact ⟨r * q, (EReal.coe_mul r q).symm⟩

/-- Zero is real. -/
theorem IsReal.zero : IsReal 0 := ⟨0, rfl⟩

/-- A real number is real. -/
theorem IsReal.coe (r : ℝ) : IsReal (r : EReal) := ⟨r, rfl⟩

/-- A finite sum of reals is real. -/
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

/-- A value whose magnitude is below infinity is real. -/
theorem isReal_of_ne {v : EReal} (hb : v ≠ ⊥) (ht : v ≠ ⊤) : IsReal v := ⟨v.toReal, (EReal.coe_toReal ht hb).symm⟩

/-- The logits of a real image with real gate weights are real. -/
theorem logit_real {x : Fin 128 → Fin 14 → Fin 14 → EReal} {g : Fin 128 → Fin 16 → EReal}
    (hx : ∀ d h w, IsReal (x d h w)) (hg : ∀ d e, IsReal (g d e)) (e : Fin 16) : IsReal (logit x g e) :=
  .sum _ _ fun d => .mul (.mul (.sum _ _ fun h => .sum _ _ fun w => hx d h w) (.coe _)) (hg d e)

/-- A real image padded with zeros is real. -/
theorem pad_real {x : Fin 14 → Fin 14 → EReal} (hx : ∀ h w, IsReal (x h w)) (h w : ℕ) : IsReal (pad x h w) := by
  unfold pad
  split
  · exact hx _ _
  · exact IsReal.zero

/-- The convolution of a real image with real weights and a real bias is real. -/
theorem convAt_real {x : Fin 128 → Fin 14 → Fin 14 → EReal} {wt : Fin 128 → Fin 3 → Fin 3 → EReal} {bias : EReal}
    (hx : ∀ i h w, IsReal (x i h w)) (hw : ∀ i dh dw, IsReal (wt i dh dw)) (hb : IsReal bias) (h w : Fin 14) :
    IsReal (convAt x wt bias h w) := by
  have t : ∀ dh dw, IsReal (tapAt x wt dh dw h w) := fun dh dw =>
    .sum _ _ fun i => .mul (hw i dh dw) (pad_real (hx i) _ _)
  exact (((((((((t 0 0).add (t 0 1)).add (t 0 2)).add (t 1 0)).add (t 1 1)).add (t 1 2)).add (t 2 0)).add (t 2 1)).add (t 2 2)).add hb

/-- A sum over the members that can only be `a₀` or `a₁`. -/
theorem sum_two {ι : Type} [Fintype ι] [DecidableEq ι] (p : ι → Prop) [DecidablePred p] (f : ι → EReal) (a₀ a₁ : ι)
    (ne : a₀ ≠ a₁) (h : ∀ j, p j → j = a₀ ∨ j = a₁) :
    ∑ j with p j, f j = (if p a₀ then f a₀ else 0) + (if p a₁ then f a₁ else 0) := by
  rw [Finset.sum_filter, ← Finset.sum_subset (Finset.subset_univ {a₀, a₁}) (fun j _ hj => ?_), Finset.sum_pair ne]
  refine if_neg fun q => hj ?_
  rcases h j q with rfl | rfl <;> simp

/-- Two gates that add up to one, each times `exp c`: the logarithm of their sum is `c`, and the sum is not zero. -/
theorem log_mix {c p q : ℝ} (h : p + q = 1) :
    (Ideal.exp c * p + Ideal.exp c * q : EReal) ≠ 0 ∧ Ideal.log (Ideal.exp c * p + Ideal.exp c * q) = (c : EReal) := by
  have e : (Ideal.exp c * p + Ideal.exp c * q : EReal) = (Real.exp c : ℝ) := by
    rw [Ideal.exp_coe, ← EReal.coe_mul, ← EReal.coe_mul, ← EReal.coe_add, ← mul_add, h, mul_one]
  rw [e]
  refine ⟨?_, ?_⟩
  · have := (Real.exp_pos c).ne'
    exact_mod_cast this
  · rw [Ideal.log_coe, if_neg (not_le.2 (Real.exp_pos c)), Real.log_exp]

end Cert.K
end
-- ==== Proof.RefGates.lean ====
module

public import proofs.«01_k».proof.Proof.RefIndex
public import proofs.«01_k».proof.Proof.Reals
public import proofs.«01_k».proof.Proof.Gates

/-!
# The reference's logits and gates

The logits, the two greatest of each row and the softmax over them, read slot by slot.
-/

@[expose] public section

set_option maxRecDepth 16384

noncomputable section
open Idealize.ShloMosaic Idealize.ShloMosaic.TcCoe Idealize.SL.Sem
namespace Cert.ReferenceIdeal.Y
open Cert.ReferenceIdeal Cert.ReferenceIdeal.Gen Cert.ReferenceIdeal.Value Cert.K

variable (V0 : Valuation τ sig (Elt Ideal))

/-- The index of the row's entry `e`, as the sort along the row names it. -/
theorem along_row (j : S32x16.Idx) (e : Fin 16) : Shape.Idx.along j (1 : Fin 2) e = ix2 (j 0) e := by
  funext a; fin_cases a
  · rfl
  · rfl

/-- A slot of an image as a position of the sorted row. -/
def slot (k : Fin 2) : Fin 16 := ⟨k.val, by omega⟩

/-- The two greatest of a row, in order, and their indices. -/
theorem topK_at (x : S32x16.Idx → EReal) (b : Fin 32) (k : Fin 2) :
    (Host.topK S32x2 1 (FloatOps.cmpfTotal (F := Ideal) (φ := .f32) .gt) x sliceFits_S32x16_S32x2).1 (ix2 b k)
        = x (ix2 b (pos (fun e => x (ix2 b e)) (slot k))) ∧
      (Host.topK S32x2 1 (FloatOps.cmpfTotal (F := Ideal) (φ := .f32) .gt) x sliceFits_S32x16_S32x2).2 (ix2 b k)
        = BitVec.ofNat 32 (pos (fun e => x (ix2 b e)) (slot k)).val := by
  have P : sortedFrom (fun i j => FloatOps.cmpfTotal (F := Ideal) (φ := .f32) .gt
      (x (Shape.Idx.along (ix2 b (slot k) : S32x16.Idx) (1 : Fin 2) i))
      (x (Shape.Idx.along (ix2 b (slot k) : S32x16.Idx) (1 : Fin 2) j)) == 1#1) (slot k)
      = pos (fun e => x (ix2 b e)) (slot k) := by
    unfold pos
    refine congrFun (congrArg sortedFrom ?_) (slot k)
    funext i j
    exact congrArg₂ (fun u v : EReal => FloatOps.cmpfTotal (F := Ideal) (φ := .f32) .gt u v == 1#1)
      (congrArg x (along_row (ix2 b (slot k)) i)) (congrArg x (along_row (ix2 b (slot k)) j))
  have J : ∀ h' : (∀ a : Fin 2, 0 + (ix2 b k a : ℕ) < S32x16.size a),
      (fun a : Fin 2 => (⟨0 + (ix2 b k a : ℕ), h' a⟩ : Fin (S32x16.size a))) = (ix2 b (slot k) : S32x16.Idx) := by
    intro _
    funext a; fin_cases a
    · exact Fin.ext (Nat.zero_add _)
    · exact Fin.ext (Nat.zero_add _)
  unfold Host.topK Host.sort2 extractStridedSlice
  dsimp only
  rw [dif_pos (show 1 < S32x16.rank by decide)]
  constructor
  · refine (congrArg _ (J _)).trans ?_
    dsimp only
    exact congrArg x ((along_row _ _).trans (congrArg (ix2 b) P))
  · refine (congrArg _ (J _)).trans ?_
    dsimp only
    rw [dif_pos (by decide)]
    have I : ∀ q : Fin 16, iotaInDim S32x16 32 (1 : Fin 2) (ix2 b q) = BitVec.ofNat 32 q.val := fun _ => rfl
    refine (congrArg (iotaInDim S32x16 32 (1 : Fin 2)) ((along_row _ _).trans (congrArg (ix2 b) P))).trans (I _)

/-- The logits of image `b`. -/
abbrev L (b : Fin 32) : Fin 16 → EReal :=
  logit (fun d h w => V0 (Proc.devRef .tc main_arg0) (ix4 b d h w)) (fun d e => V0 (Proc.devRef .tc main_arg1) (ix2 d e))

/-- The word of 196. -/
theorem ofBits_196 : Ideal.ofBits .f32 0x43440000#32 = ((196 : ℝ) : EReal) := by
  simp [Ideal.ofBits, Ideal.ieee, -EReal.coe_mul]; norm_num

/-- The reference's logits are the specification's. -/
theorem v3_at (b : Fin 32) (e : Fin 16) : res_main_v3 V0 (ix2 b e) = L V0 b e := by
  pointwise [res_main_v3]
  unfold L logit
  refine Finset.sum_congr (M := EReal) rfl fun d _ => ?_
  rw [ofBits_196, Ideal.div_coe (by norm_num), one_div]

/-- The values its top-k picks are the first two of the sorted row. -/
theorem values_at (b : Fin 32) (k : Fin 2) : res_main_values V0 (ix2 b k) = L V0 b (pos (L V0 b) (slot k)) := by
  unfold res_main_values
  rw [(topK_at _ b k).1, v3_at]
  simp only [v3_at]

/-- The expert of a slot, as a word. -/
theorem v18_at (s : Fin 64) : res_main_v18 V0 (ix1 s) = BitVec.ofNat 32 (pos (L V0 ⟨s.val / 2, by omega⟩) (slot ⟨s.val % 2, by omega⟩)).val := by
  pointwise [res_main_v18]
  rw [(topK_at _ _ _).2]
  simp only [v3_at]

/-- The row an entry falls to when the two slots of an image are reduced. -/
theorem drop_col (h : S32x2.ReducesTo [1] S32) (i : S32x2.Idx) : h.drop i = ix1 (i 0) := by
  funext a; fin_cases a; rfl

/-- The exponential the softmax sums: of the logit less the greatest. -/
theorem v10_at (b : Fin 32) (k : Fin 2) : res_main_v10 V0 (ix2 b k) =
    Ideal.exp (L V0 b (pos (L V0 b) (slot k)) - L V0 b (pos (L V0 b) 0)) := by
  pointwise [res_main_v10, values_at]
  congr 2
  rw [neg_inf, max_eq_right bot_le]
  refine le_antisymm (Finset.fold_max_le _ |>.2 ⟨bot_le, fun i hi => ?_⟩) (Finset.le_fold_max _ |>.2 (Or.inr ⟨ix2 b 0, ?_, ?_⟩))
  · have e : i 0 = b := by
      have := (Finset.mem_filter.1 hi).2
      rw [drop_col] at this
      exact congrFun this 0
    rw [show i = ix2 b (i 1) from (eq_ix2 i).trans (congrArg (fun q => ix2 q (i 1)) e)]
    refine (le_of_eq (α := EReal) (values_at V0 b (i 1))).trans ?_
    exact (topTwo_pos (L V0 b)).first.le _
  · rw [Finset.mem_filter, drop_col]
    exact ⟨Finset.mem_univ _, rfl⟩
  · exact le_of_eq (α := EReal) (values_at V0 b 0).symm

/-- The gate of a slot. -/
def slotGate (b : Fin 32) (k : Fin 2) : EReal :=
  if k = 0 then gate₁ (L V0 b (pos (L V0 b) 0)) (L V0 b (pos (L V0 b) 1)) else gate₂ (L V0 b (pos (L V0 b) 0)) (L V0 b (pos (L V0 b) 1))

/-- A slot's gate is the specification's, where the logits are real. -/
theorem v19_at (hL : ∀ b e, IsReal (L V0 b e)) (s : Fin 64) : res_main_v19 V0 (ix1 s) = slotGate V0 ⟨s.val / 2, by omega⟩ ⟨s.val % 2, by omega⟩ := by
  pointwise [res_main_v19, v10_at]
  rw [Fin.sum_univ_two]
  generalize (⟨s.val / 2, _⟩ : Fin 32) = b
  generalize (⟨s.val % 2, _⟩ : Fin 2) = k
  unfold slotGate
  obtain ⟨p, hp⟩ := hL b (pos (L V0 b) 0)
  obtain ⟨q, hq⟩ := hL b (pos (L V0 b) 1)
  have e0 : slot 0 = 0 := rfl
  have e1 : slot 1 = 1 := rfl
  rw [e0, e1]
  have S := softmax_eq p q
  fin_cases k
  · refine Eq.trans ?_ (S.1.trans ?_)
    · rw [← hp, ← hq]; rfl
    · rw [← hp, ← hq]; rfl
  · refine Eq.trans ?_ (S.2.trans ?_)
    · rw [← hp, ← hq]; rfl
    · rw [← hp, ← hq]; rfl

end Cert.ReferenceIdeal.Y
end
-- ==== Proof.RefMatrix.lean ====
module

public import proofs.«01_k».proof.Proof.RefGates

/-!
# The reference's gate matrix

The matrix the reference scatters the softmax gates into is the specification's `gates` of each image's logits.
-/

@[expose] public section

set_option maxRecDepth 16384

noncomputable section
open Idealize.ShloMosaic Idealize.ShloMosaic.TcCoe Idealize.SL.Sem
open Idealize.ShloMosaic.Routing (wrap_of_lt resultIdx?_eq_some)
namespace Cert.ReferenceIdeal.Y
open Cert.ReferenceIdeal Cert.ReferenceIdeal.Gen Cert.ReferenceIdeal.Value Cert.K

variable (V0 : Valuation τ sig (Elt Ideal))

/-- An update `s` of the scatter into the gate matrix lands at `(b, e)` iff its index row reads `b, e`. -/
theorem scatter_gate_at (idx : IVec S64x2 32) (s : Fin 64) (b : Fin 32) (e : Fin 16) (u v : ℕ) (hu : u < 32) (hv : v < 16)
    (h0 : idx (ix2 s 0) = BitVec.ofNat 32 u) (h1 : idx (ix2 s 1) = BitVec.ofNat 32 v) :
    (scatter_S32x16_S64x2_S64_n_01_01_1).resultIdx? (ix1 s) idx = some (ix2 b e) ↔ u = b.val ∧ v = e.val := by
  have e0 : (scatter_S32x16_S64x2_S64_n_01_01_1).start (ix1 s) idx 0 = (u : Int) := by
    show (idx _).toInt = _
    rw [show (scatter_S32x16_S64x2_S64_n_01_01_1).siIdx (ix1 s) _ = ix2 s 0 from by ext a; fin_cases a <;> rfl]
    rw [h0, WordCmp.toInt_ofNat_of_lt (by omega)]
  have e1 : (scatter_S32x16_S64x2_S64_n_01_01_1).start (ix1 s) idx 1 = (v : Int) := by
    show (idx _).toInt = _
    rw [show (scatter_S32x16_S64x2_S64_n_01_01_1).siIdx (ix1 s) _ = ix2 s 1 from by ext a; fin_cases a <;> rfl]
    rw [h1, WordCmp.toInt_ofNat_of_lt (by omega)]
  have k0 : (scatter_S32x16_S64x2_S64_n_01_01_1).start (ix1 s) idx 0 + ((scatter_S32x16_S64x2_S64_n_01_01_1).window (ix1 s) 0 : Int) = (u : Int) := by
    rw [e0]; exact add_zero _
  have k1 : (scatter_S32x16_S64x2_S64_n_01_01_1).start (ix1 s) idx 1 + ((scatter_S32x16_S64x2_S64_n_01_01_1).window (ix1 s) 1 : Int) = (v : Int) := by
    rw [e1]; exact add_zero _
  rw [resultIdx?_eq_some]
  constructor
  · intro q
    have q0 := (k0.symm.trans (q 0) : _ = (b.val : Int))
    have q1 := (k1.symm.trans (q 1) : _ = (e.val : Int))
    exact ⟨by omega, by omega⟩
  · rintro ⟨q0, q1⟩ a
    fin_cases a
    · exact k0.trans (by exact_mod_cast q0)
    · exact k1.trans (by exact_mod_cast q1)

/-- The gate index rows: the wrapped image and expert numbers side by side. -/
abbrev gateIdx : IVec S64x2 32 :=
  concatenate S64x2 1 [⟨S64x1, (broadcastInDim S64x1 ![0] bcast_S64_S64x1_0 (select (cmpi .slt (res_main_v17 V0) (broadcastInDim S64 ![] bcast_S_S64 (constantI S_ 32 0#32))) (addi (res_main_v17 V0) (broadcastInDim S64 ![] bcast_S_S64 (constantI S_ 32 32#32))) (res_main_v17 V0)))⟩, ⟨S64x1, (broadcastInDim S64x1 ![0] bcast_S64_S64x1_0 (select (cmpi .slt (res_main_v18 V0) (broadcastInDim S64 ![] bcast_S_S64 (constantI S_ 32 0#32))) (addi (res_main_v18 V0) (broadcastInDim S64 ![] bcast_S_S64 (constantI S_ 32 16#32))) (res_main_v18 V0)))⟩] concatenates_S64x1_S64x1_S64x2_d1

/-- The first entry of slot `s`'s index row is its image. -/
theorem gateIdx_0 (s : Fin 64) : gateIdx V0 (ix2 s 0) = BitVec.ofNat 32 (s.val / 2) := by
  unfold gateIdx
  pointwise [v17_at]
  exact wrap_of_lt _ _ (by rw [BitVec.toNat_ofNat]; omega)

/-- The second is the expert it chose. -/
theorem gateIdx_1 (s : Fin 64) : gateIdx V0 (ix2 s 1) =
    BitVec.ofNat 32 (pos (L V0 ⟨s.val / 2, by omega⟩) (slot ⟨s.val % 2, by omega⟩)).val := by
  unfold gateIdx
  pointwise [v18_at]
  exact wrap_of_lt _ _ (by rw [BitVec.toNat_ofNat]; omega)

/-- Slot `k` of image `b`, among all slots. -/
def slotOf (b : Fin 32) (k : Fin 2) : Fin 64 := ⟨2 * b.val + k.val, by omega⟩

/-- A slot's image and its place there. -/
theorem slotOf_eq (s : Fin 64) (b : Fin 32) (h : s.val / 2 = b.val) : s = slotOf b 0 ∨ s = slotOf b 1 := by
  rcases Nat.mod_two_eq_zero_or_one s.val with r | r
  · exact Or.inl (Fin.ext (show s.val = 2 * b.val + 0 by omega))
  · exact Or.inr (Fin.ext (show s.val = 2 * b.val + 1 by omega))

/-- The image of a slot. -/
theorem slotOf_div (b : Fin 32) (k : Fin 2) : (⟨(slotOf b k).val / 2, by omega⟩ : Fin 32) = b :=
  Fin.ext (show (2 * b.val + k.val) / 2 = b.val by omega)

/-- The place of a slot in its image. -/
theorem slotOf_mod (b : Fin 32) (k : Fin 2) : (⟨(slotOf b k).val % 2, by omega⟩ : Fin 2) = k :=
  Fin.ext (show (2 * b.val + k.val) % 2 = k.val by omega)

/-- Slot `k` of image `b` is added at `(b, e)` iff `e` is the image's `k`-th greatest logit. -/
theorem lands_slot (b : Fin 32) (k : Fin 2) (e : Fin 16) :
    (scatter_S32x16_S64x2_S64_n_01_01_1).resultIdx? (ix1 (slotOf b k)) (gateIdx V0) = some (ix2 b e) ↔
      e = pos (L V0 b) (slot k) := by
  have h1 := gateIdx_1 V0 (slotOf b k)
  rw [slotOf_div, slotOf_mod] at h1
  rw [scatter_gate_at _ _ b e _ _ (by omega) (Fin.isLt _) (gateIdx_0 V0 (slotOf b k)) h1]
  constructor
  · rintro ⟨-, h⟩; exact (Fin.ext h).symm
  · intro h; exact ⟨show (2 * b.val + k.val) / 2 = b.val by omega, congrArg Fin.val h.symm⟩

/-- The gate the reference gives slot `k` of image `b`. -/
theorem v19_slot (hL : ∀ b e, IsReal (L V0 b e)) (b : Fin 32) (k : Fin 2) :
    res_main_v19 V0 (ix1 (slotOf b k)) = slotGate V0 b k := by
  rw [v19_at V0 hL, slotOf_div, slotOf_mod]

/-- The reference's gate matrix is the specification's. -/
theorem v34_at (hL : ∀ b e, IsReal (L V0 b e)) (b : Fin 32) (e : Fin 16) :
    res_main_v34 V0 (ix2 b e) = gates (L V0 b) e := by
  unfold res_main_v34 Host.scatterAdd
  rw [Ideal.hostScatterAdd_def]
  unfold Ideal.hostScatterAdd
  have S := sum_two (fun j : S64.Idx => (scatter_S32x16_S64x2_S64_n_01_01_1).resultIdx? j (gateIdx V0) = some (ix2 b e))
    (res_main_v19 V0) (ix1 (slotOf b 0)) (ix1 (slotOf b 1))
    (fun h => absurd (congrArg Fin.val (congrFun h 0)) (show ¬ 2 * b.val + 0 = 2 * b.val + 1 by omega))
    (fun j hj => by
      rw [eq_ix1 j] at hj ⊢
      have := ((scatter_gate_at _ _ b e _ _ (by omega) (Fin.isLt _) (gateIdx_0 V0 (j 0)) (gateIdx_1 V0 (j 0))).1 hj).1
      exact (slotOf_eq _ b this).imp (congrArg ix1) (congrArg ix1))
  refine (congrArg₂ (fun u v : EReal => u + v) (?_ : _ = (0 : EReal)) S).trans ?_
  · pointwise
  · rw [zero_add]
    simp only [lands_slot, v19_slot V0 hL]
    rfl

end Cert.ReferenceIdeal.Y
end
-- ==== Proof.RefY.lean ====
module

public import proofs.«01_k».proof.Proof.RefMatrix

/-!
# The reference's first result

Every slot's convolution is that of its image with the first expert's weights, as the experts are alike; the two gates of an
image add up to one, so the logarithm of the gated sum of exponentials is the convolution itself.
-/

@[expose] public section

set_option maxRecDepth 16384

noncomputable section
open Idealize.ShloMosaic Idealize.ShloMosaic.TcCoe Idealize.SL.Sem
namespace Cert.ReferenceIdeal.Y
open Cert.ReferenceIdeal Cert.ReferenceIdeal.Gen Cert.ReferenceIdeal.Value Cert.K

variable (V0 : Valuation τ sig (Elt Ideal))

/-- The weights a slot gathers are the first expert's. -/
theorem v48_at (hw : ∀ (e : Fin 16) (o i : Fin 128) (dh dw : Fin 3), V0 (Proc.devRef .tc main_arg2) (ix5 e o i dh dw) = V0 (Proc.devRef .tc main_arg2) (ix5 0 o i dh dw))
    (s : Fin 64) (o i : Fin 128) (dh dw : Fin 3) :
    res_main_v48 V0 (ix5 s o i dh dw) = V0 (Proc.devRef .tc main_arg2) (ix5 0 o i dh dw) := by
  unfold res_main_v48
  obtain ⟨e, he⟩ := gather_w_at (V0 (Proc.devRef .tc main_arg2)) _ s o i dh dw
  exact he.trans (hw e o i dh dw)

/-- The image a slot gathers, with its border of zeros. -/
theorem v56_at (s : Fin 64) (i : Fin 128) (h w : Fin 16) :
    res_main_v56 V0 (ix4 s i h w) = Cert.K.pad (fun h w => V0 (Proc.devRef .tc main_arg0) (ix4 ⟨s.val / 2, by omega⟩ i h w)) h.val w.val := by
  pointwise [res_main_v56]
  unfold Cert.K.pad
  by_cases q : 1 ≤ h.val ∧ h.val ≤ 14 ∧ 1 ≤ w.val ∧ w.val ≤ 14
  · rw [dif_pos q]
    obtain ⟨q1, q2, q3, q4⟩ := q
    refine (dif_pos ⟨⟨q1, by omega⟩, q3, by omega⟩).trans ?_
    exact gather_x_at _ _ s i _ _ (bidx_at V0 s)
  · rw [dif_neg q]
    refine (dif_neg fun r => q ⟨r.1.1, by omega, r.2.1, by omega⟩).trans ?_
    exact (congrArg (fun z : ℝ => (z : EReal)) (by simp)).trans EReal.coe_zero

/-- A slot's contribution at one pixel: the exponential of the convolution times the slot's gate. -/
theorem v109_at (hw : ∀ (e : Fin 16) (o i : Fin 128) (dh dw : Fin 3), V0 (Proc.devRef .tc main_arg2) (ix5 e o i dh dw) = V0 (Proc.devRef .tc main_arg2) (ix5 0 o i dh dw))
    (hb : ∀ (e : Fin 16) (o : Fin 128), V0 (Proc.devRef .tc main_arg3) (ix2 e o) = V0 (Proc.devRef .tc main_arg3) (ix2 0 o))
    (s : Fin 64) (o : Fin 128) (h w : Fin 14) :
    res_main_v109 V0 (ix4 s o h w) = Ideal.exp (convAt (fun i h w => V0 (Proc.devRef .tc main_arg0) (ix4 ⟨s.val / 2, by omega⟩ i h w))
      (fun i dh dw => V0 (Proc.devRef .tc main_arg2) (ix5 0 o i dh dw)) (V0 (Proc.devRef .tc main_arg3) (ix2 0 o)) h w) * res_main_v19 V0 (ix1 s) := by
  pointwise [res_main_v109, v48_at V0 hw, v56_at]
  obtain ⟨e, he⟩ := gather_b_at (V0 (Proc.devRef .tc main_arg3)) (broadcastInDim S64x1 ![0] bcast_S64_S64x1_0 (select (cmpi .slt (res_main_v18 V0) (broadcastInDim S64 ![] bcast_S_S64 (constantI S_ 32 0#32))) (addi (res_main_v18 V0) (broadcastInDim S64 ![] bcast_S_S64 (constantI S_ 32 16#32))) (res_main_v18 V0))) s o
  rw [he.trans (hb e o)]
  simp only [Nat.add_comm 1, Nat.add_comm 2]
  rfl

/-- The convolution of image `b` with the first expert's weights, at channel `o`. -/
abbrev conv (b : Fin 32) (o : Fin 128) (h w : Fin 14) : EReal :=
  convAt (fun i h w => V0 (Proc.devRef .tc main_arg0) (ix4 b i h w))
    (fun i dh dw => V0 (Proc.devRef .tc main_arg2) (ix5 0 o i dh dw)) (V0 (Proc.devRef .tc main_arg3) (ix2 0 o)) h w

/-- The wrapped image numbers of the slots. -/
abbrev imageIdx : IVec S64x1 32 :=
  broadcastInDim S64x1 ![0] bcast_S64_S64x1_0 (select (cmpi .slt (res_main_v17 V0) (broadcastInDim S64 ![] bcast_S_S64 (constantI S_ 32 0#32))) (addi (res_main_v17 V0) (broadcastInDim S64 ![] bcast_S_S64 (constantI S_ 32 32#32))) (res_main_v17 V0))

/-- The reference's gated sum over the slots, at one pixel: the two slots of the image. -/
theorem v117_at (hL : ∀ b e, IsReal (L V0 b e))
    (hw : ∀ (e : Fin 16) (o i : Fin 128) (dh dw : Fin 3), V0 (Proc.devRef .tc main_arg2) (ix5 e o i dh dw) = V0 (Proc.devRef .tc main_arg2) (ix5 0 o i dh dw))
    (hb : ∀ (e : Fin 16) (o : Fin 128), V0 (Proc.devRef .tc main_arg3) (ix2 e o) = V0 (Proc.devRef .tc main_arg3) (ix2 0 o))
    (b : Fin 32) (o : Fin 128) (h w : Fin 14) :
    res_main_v117 V0 (ix4 b o h w) = Ideal.exp (conv V0 b o h w) * slotGate V0 b 0 + Ideal.exp (conv V0 b o h w) * slotGate V0 b 1 := by
  unfold res_main_v117 Host.scatterAdd
  rw [Ideal.hostScatterAdd_def]
  unfold Ideal.hostScatterAdd
  have l : ∀ k, (scatter_S32x128x14x14_S64x1_S64x128x14x14_123_0_0_1).resultIdx? (ix4 (slotOf b k) o h w) (imageIdx V0) = some (ix4 b o h w) :=
    fun k => (scatter_lands_at _ _ _ _ _ _ _ _ _ (bidx_at V0 _)).2 ⟨congrArg Fin.val (slotOf_div b k), rfl, rfl, rfl⟩
  have S := sum_two (fun j : S64x128x14x14.Idx => (scatter_S32x128x14x14_S64x1_S64x128x14x14_123_0_0_1).resultIdx? j (imageIdx V0) = some (ix4 b o h w))
    (res_main_v109 V0) (ix4 (slotOf b 0) o h w) (ix4 (slotOf b 1) o h w)
    (fun h => absurd (congrArg Fin.val (congrFun h 0)) (show ¬ 2 * b.val + 0 = 2 * b.val + 1 by omega))
    (fun j hj => by
      rw [eq_ix4 j] at hj ⊢
      obtain ⟨q, e1, e2, e3⟩ := (scatter_lands_at _ _ _ _ _ _ _ _ _ (bidx_at V0 _)).1 hj
      rw [e1, e2, e3]
      exact (slotOf_eq _ b q).imp (congrArg (ix4 · o h w)) (congrArg (ix4 · o h w)))
  rw [if_pos (l 0), if_pos (l 1), v109_at V0 hw hb, v109_at V0 hw hb, v19_slot V0 hL, v19_slot V0 hL, slotOf_div, slotOf_div] at S
  refine (congrArg₂ (fun u v : EReal => u + v) (?_ : _ = (0 : EReal)) S).trans ?_
  · pointwise
  · rw [zero_add]

/-- The reference's first result at one pixel, for real arguments and alike experts: the convolution. -/
theorem y_at (hx : ∀ b i h w, IsReal (V0 (Proc.devRef .tc main_arg0) (ix4 b i h w)))
    (hg : ∀ d e, IsReal (V0 (Proc.devRef .tc main_arg1) (ix2 d e)))
    (hW : ∀ e o i dh dw, IsReal (V0 (Proc.devRef .tc main_arg2) (ix5 e o i dh dw)))
    (hB : ∀ e o, IsReal (V0 (Proc.devRef .tc main_arg3) (ix2 e o)))
    (hw : ∀ (e : Fin 16) (o i : Fin 128) (dh dw : Fin 3), V0 (Proc.devRef .tc main_arg2) (ix5 e o i dh dw) = V0 (Proc.devRef .tc main_arg2) (ix5 0 o i dh dw))
    (hb : ∀ (e : Fin 16) (o : Fin 128), V0 (Proc.devRef .tc main_arg3) (ix2 e o) = V0 (Proc.devRef .tc main_arg3) (ix2 0 o))
    (b : Fin 32) (o : Fin 128) (h w : Fin 14) :
    (Host.log (select (cmpf .oeq (res_main_v117 V0) (broadcastInDim S32x128x14x14 ![] bcast_S_S32x128x14x14 (constant S_ .f32 0x00000000#32))) (broadcastInDim S32x128x14x14 ![] bcast_S_S32x128x14x14 (constant S_ .f32 0x25800000#32)) (res_main_v117 V0)) : FVec Ideal S32x128x14x14 .f32) (ix4 b o h w)
      = conv V0 b o h w := by
  have hL : ∀ b e, IsReal (L V0 b e) := fun b e => logit_real (hx b) hg e
  obtain ⟨c, hc⟩ : IsReal (conv V0 b o h w) := convAt_real (hx b) (hW 0 o) (hB 0 o) h w
  obtain ⟨l₁, h₁⟩ := hL b (pos (L V0 b) 0)
  obtain ⟨l₂, h₂⟩ := hL b (pos (L V0 b) 1)
  obtain ⟨p, q, hp, hq, pq⟩ := gates_real l₁ l₂
  have g₁ : slotGate V0 b 0 = p := by rw [← hp, ← h₁, ← h₂]; rfl
  have g₂ : slotGate V0 b 1 = q := by rw [← hq, ← h₁, ← h₂]; rfl
  have v := v117_at V0 hL hw hb b o h w
  rw [hc, g₁, g₂] at v
  obtain ⟨n, l⟩ := log_mix (c := c) pq
  pointwise [v]
  rw [hc, if_neg n, l]

end Cert.ReferenceIdeal.Y
end
-- ==== Proof.RefLoss.lean ====
module

public import proofs.«01_k».proof.Proof.RefMatrix
public import Idealize.ShloMosaic.Lib.IndicatorCount

/-!
# The reference's second result

The load-balancing loss of the reference is the specification's `loss` of the gates of its images.
-/

@[expose] public section

set_option maxRecDepth 16384

noncomputable section
open Idealize.ShloMosaic Idealize.ShloMosaic.TcCoe Idealize.SL.Sem
namespace Cert.ReferenceIdeal.Y
open Cert.ReferenceIdeal Cert.ReferenceIdeal.Gen Cert.ReferenceIdeal.Value Cert.K

variable (V0 : Valuation τ sig (Elt Ideal))

/-- The column a gate matrix entry falls to when its rows are summed. -/
theorem drop_row (h : S32x16.ReducesTo [0] S16) (i : S32x16.Idx) : h.drop i = ix1 (i 1) := by
  funext a; fin_cases a; rfl

/-- The count of a column's positive entries, as a number. -/
theorem count_at (p : S32x16.Idx → Prop) [DecidablePred p] (h : S32x16.ReducesTo [0] S16) (e : Fin 16) :
    FloatOps.sitofp (F := Ideal) .f32 (Finset.fold IntOp.addi 0#32 (fun x => BitVec.setWidth 32 (BitVec.ofBool (decide (p x))))
      ({i | h.drop i = ix1 e} : Finset S32x16.Idx)) = ∑ b : Fin 32, if p (ix2 b e) then (1 : EReal) else 0 := by
  rw [IndicatorCount.fold_addi_setWidth_eq_card]
  have m : (({i | h.drop i = ix1 e} : Finset S32x16.Idx).filter fun k => BitVec.ofBool (decide (p k)) = 1#1).card
      = (Finset.univ.filter fun b : Fin 32 => p (ix2 b e)).card := by
    refine (Finset.card_bij (fun b _ => (ix2 b e : S32x16.Idx)) ?_ ?_ ?_).symm
    · intro b hb
      rw [Finset.mem_filter, Finset.mem_filter, drop_row]
      refine ⟨⟨Finset.mem_univ _, rfl⟩, ?_⟩
      rw [decide_eq_true (Finset.mem_filter.1 hb).2]; rfl
    · intro b _ b' _ q
      exact congrFun q 0
    · intro i hi
      obtain ⟨hi, hp⟩ := Finset.mem_filter.1 hi
      have e' : i 1 = e := by
        have := (Finset.mem_filter.1 hi).2
        rw [drop_row] at this
        exact congrFun this 0
      have i' : i = ix2 (i 0) e := (eq_ix2 i).trans (congrArg (ix2 (i 0)) e')
      refine ⟨i 0, Finset.mem_filter.2 ⟨Finset.mem_univ _, ?_⟩, i'.symm⟩
      refine (congrArg p i').mp ?_
      by_contra n
      rw [decide_eq_false n] at hp
      exact absurd hp (by decide)
  rw [m, Finset.sum_boole]
  have c : (Finset.univ.filter fun b : Fin 32 => p (ix2 b e)).card ≤ 32 := (Finset.card_le_univ _).trans (by simp)
  show ((((BitVec.ofNat 32 _).toInt : ℝ)) : EReal) = _
  rw [WordCmp.toInt_ofNat_of_lt (by omega)]
  simp

/-- The divisor of the variance: sixteen less one is fifteen. -/
theorem sixteen_less_one : Ideal.ofBits .f32 0x41800000#32 - FloatOps.sitofp (F := Ideal) .f32 1#32 = Ideal.ofBits .f32 0x41700000#32 := by
  have a : Ideal.ofBits .f32 0x41800000#32 = ((16 : ℝ) : EReal) := by
    simp [Ideal.ofBits, Ideal.ieee, -EReal.coe_mul]; norm_num
  have c : Ideal.ofBits .f32 0x41700000#32 = ((15 : ℝ) : EReal) := by
    simp [Ideal.ofBits, Ideal.ieee, -EReal.coe_mul]; norm_num
  have o : FloatOps.sitofp (F := Ideal) .f32 1#32 = ((1 : ℝ) : EReal) :=
    congrArg (fun z : ℝ => (z : EReal)) (by simp)
  rw [a, c, o, ← EReal.coe_sub]
  norm_num

/-- It is positive. -/
theorem fifteen_pos : (0 : EReal) < Ideal.ofBits .f32 0x41700000#32 := by
  have c : Ideal.ofBits .f32 0x41700000#32 = ((15 : ℝ) : EReal) := by
    simp [Ideal.ofBits, Ideal.ieee, -EReal.coe_mul]; norm_num
  rw [c]; exact_mod_cast (by norm_num : (0 : ℝ) < 15)

/-- The importance of an expert: the sum of its gates. -/
theorem v122_at (hL : ∀ b e, IsReal (L V0 b e)) (e : Fin 16) :
    res_main_v122 V0 (ix1 e) = ∑ b, gates (L V0 b) e := by
  pointwise [res_main_v122, v34_at V0 hL]

/-- The load of an expert: the number of images with a positive gate for it. -/
theorem v127_at (hL : ∀ b e, IsReal (L V0 b e)) (e : Fin 16) :
    res_main_v127 V0 (ix1 e) = ∑ b, if 0 < gates (L V0 b) e then (1 : EReal) else 0 := by
  pointwise [res_main_v127]
  refine (count_at (fun x => (0 : EReal) < res_main_v34 V0 x) _ e).trans ?_
  simp only [v34_at V0 hL]

/-- The reference's second result. -/
theorem loss_at (hL : ∀ b e, IsReal (L V0 b e)) (j : S_.Idx) :
    (mulf (addf (Host.divf (select (cmpf .ogt (res_main_call2_v8 V0) (constant S_ .f32 0x00000000#32)) (Host.divf (Host.reduceAdd (mulf (res_main_call2_v5 V0) (res_main_call2_v5 V0)) (constant S_ .f32 0x00000000#32) reducesTo_S16_S_d0 h_S_) (res_main_call2_v8 V0)) (id (constant S_ .f32 0x7FC00000#32))) (addf (mulf (res_main_v130 V0) (res_main_v130 V0)) (constant S_ .f32 0x2EDBE6FF#32))) (Host.divf (select (cmpf .ogt (res_main_call3_v8 V0) (constant S_ .f32 0x00000000#32)) (Host.divf (Host.reduceAdd (mulf (res_main_call3_v5 V0) (res_main_call3_v5 V0)) (constant S_ .f32 0x00000000#32) reducesTo_S16_S_d0 h_S_) (res_main_call3_v8 V0)) (id (constant S_ .f32 0x7FC00000#32))) (addf (mulf (res_main_v136 V0) (res_main_v136 V0)) (constant S_ .f32 0x2EDBE6FF#32)))) (constant S_ .f32 0x3C23D70A#32) : FVec Ideal S_ .f32) j
      = loss fun b => gates (L V0 b) := by
  rw [show j = ix0 from funext fun a => a.elim0]
  pointwise [res_main_call2_v8, res_main_call3_v8, res_main_call2_v5, res_main_call3_v5, res_main_v130, res_main_v136, v122_at V0 hL, v127_at V0 hL]
  rw [sixteen_less_one, if_pos fifteen_pos, if_pos fifteen_pos]
  rfl

end Cert.ReferenceIdeal.Y
end
-- ==== Proof.Precondition.lean ====
module

public import proofs.«01_k».proof.Proof.Gen.Pre_experts_alike
public import proofs.«01_k».proof.Proof.Reals
public import Idealize.ShloMosaic.Lib.ReduceAll
public import Idealize.ShloMosaic.Lib.Pointwise

/-!
# The precondition read back

What the printed predicate says of the arguments, index by index: every element is a real number, and every expert's weights and
bias are the first expert's.
-/

@[expose] public section

set_option maxRecDepth 16384

noncomputable section
open Idealize.ShloMosaic
namespace Cert.Pre_experts_alike.Y
open Cert.Pre_experts_alike Cert.Pre_experts_alike.Gen Cert.K

/-- A scalar has one index. -/
instance : Subsingleton S_.Idx := ⟨fun _ _ => funext fun a => a.elim0⟩

/-- An extended real of absolute value below infinity is real. -/
theorem real_of_abs_lt (v : EReal)
    (h : FloatOps.cmpf (F := Ideal) (φ := .f32) .olt (FloatOps.hostAbsf (F := Ideal) (φ := .f32) v) (Ideal.ofBits .f32 0x7F800000#32) = 1#1) : IsReal v := by
  rw [Ideal.hostAbsf_def, Ideal.absf_def, Ideal.cmpf_def] at h
  have t : Ideal.ofBits .f32 0x7F800000#32 = ⊤ := by simp [Ideal.ofBits, Ideal.ieee]
  have l : max v (-v) < ⊤ := by
    by_contra n
    rw [t, show Ideal.cmp .olt (max v (-v)) ⊤ = BitVec.ofBool (decide (max v (-v) < ⊤)) from rfl, decide_eq_false n] at h
    exact absurd h (by decide)
  rw [max_lt_iff] at l
  refine isReal_of_ne (fun q => ?_) l.1.ne
  rw [q] at l
  exact absurd l.2 (by simp)

/-- Two extended reals that compare equal are equal. -/
theorem eq_of_oeq (v u : EReal) (h : FloatOps.cmpf (F := Ideal) (φ := .f32) .oeq v u = 1#1) : v = u := by
  rw [Ideal.cmpf_def] at h
  by_contra n
  rw [show Ideal.cmp .oeq v u = BitVec.ofBool (decide (v = u)) from rfl, decide_eq_false n] at h
  exact absurd h (by decide)

/-- What the precondition says of the four arguments. -/
structure Says (x : FVec Ideal S32x128x14x14 .f32) (g : FVec Ideal S128x16 .f32) (w : FVec Ideal S16x128x128x3x3 .f32) (b : FVec Ideal S16x128 .f32) : Prop where
  x_real : ∀ i, IsReal (x i)
  g_real : ∀ i, IsReal (g i)
  w_real : ∀ i, IsReal (w i)
  b_real : ∀ i, IsReal (b i)
  w_alike : ∀ (e : Fin 16) (o i : Fin 128) (dh dw : Fin 3), w (ix5 e o i dh dw) = w (ix5 0 o i dh dw)
  b_alike : ∀ (e : Fin 16) (o : Fin 128), b (ix2 e o) = b (ix2 0 o)

/-- The printed predicate, all ones, says so. -/
theorem says_of_fn (x : FVec Ideal S32x128x14x14 .f32) (g : FVec Ideal S128x16 .f32) (w : FVec Ideal S16x128x128x3x3 .f32) (b : FVec Ideal S16x128 .f32)
    (h : fn (F := Ideal) x g w b = fun _ => 1#1) : Says x g w b := by
  have e := congrFun h ix0
  unfold fn fn_part1 at e
  dsimp only at e
  obtain ⟨e, hb'⟩ := IntOp.andi_eq_one.1 e
  obtain ⟨e, hw'⟩ := IntOp.andi_eq_one.1 e
  obtain ⟨e, hb⟩ := IntOp.andi_eq_one.1 e
  obtain ⟨e, hw⟩ := IntOp.andi_eq_one.1 e
  obtain ⟨hx, hg⟩ := IntOp.andi_eq_one.1 e
  refine ⟨fun i => ?_, fun i => ?_, fun i => ?_, fun i => ?_, fun e o i dh dw => ?_, fun e o => ?_⟩
  · exact real_of_abs_lt _ (Host.reduce_andi_all _ _ _ _ _ hx i)
  · exact real_of_abs_lt _ (Host.reduce_andi_all _ _ _ _ _ hg i)
  · exact real_of_abs_lt _ (Host.reduce_andi_all _ _ _ _ _ hw i)
  · exact real_of_abs_lt _ (Host.reduce_andi_all _ _ _ _ _ hb i)
  · refine (eq_of_oeq _ _ (Host.reduce_andi_all _ _ _ _ _ hw' (ix5 e o i dh dw))).trans ?_
    pointwise
  · refine (eq_of_oeq _ _ (Host.reduce_andi_all _ _ _ _ _ hb' (ix2 e o))).trans ?_
    pointwise

end Cert.Pre_experts_alike.Y
end
-- ==== Proof.Algebraic.lean ====
module

public import proofs.«01_k».proof.Defs
public import proofs.«01_k».proof.Proof.KernelRun
public import proofs.«01_k».proof.Proof.KernelLoss
public import proofs.«01_k».proof.Proof.RefY
public import proofs.«01_k».proof.Proof.RefLoss
public import proofs.«01_k».proof.Proof.Precondition

/-!
# Kernel and reference agree

Both results, on arguments that meet the precondition: the convolution with the first expert, and the load-balancing loss.
-/

@[expose] public section

set_option maxRecDepth 16384

noncomputable section
open Idealize.ShloMosaic Idealize.ShloMosaic.TcCoe Idealize.SL.Sem
open Idealize.ShloMosaic.StableHlo (launchContents)
namespace Cert.Proof
open Cert.K

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel and the reference are launched on the same arguments. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- The precondition read back, of the kernel's arguments on device `c`. -/
abbrev Met (c : Dev Cert.KernelIdeal.nD) : Prop :=
  Cert.Pre_experts_alike.Y.Says (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- The first results agree: the reference's is the convolution with the first expert, as the kernel's is. -/
theorem y_agrees (c : Dev Cert.KernelIdeal.nD) (S : Met m c) (A : Agree m m' c) :
    (Host.log (select (cmpf (F := Ideal) .oeq (Cert.ReferenceIdeal.Value.res_main_v117 (F := Ideal) (launchContents m' c)) (broadcastInDim Cert.ReferenceIdeal.S32x128x14x14 ![] Cert.ReferenceIdeal.Gen.bcast_S_S32x128x14x14 (constant Cert.ReferenceIdeal.S_ .f32 0x00000000#32))) (broadcastInDim Cert.ReferenceIdeal.S32x128x14x14 ![] Cert.ReferenceIdeal.Gen.bcast_S_S32x128x14x14 (constant Cert.ReferenceIdeal.S_ .f32 0x25800000#32)) (Cert.ReferenceIdeal.Value.res_main_v117 (launchContents m' c))) : FVec Ideal Cert.ReferenceIdeal.S32x128x14x14 .f32)
      = transpose Cert.KernelIdeal.S32x128x14x14 [2, 3, 0, 1] (shapeCast Cert.KernelIdeal.S14x14x32x128 (Cert.KernelIdeal.Gen.outsAt0 (F := Ideal) m c Cert.KernelIdeal.Gen.t0_0).1
              Cert.KernelIdeal.Gen.shapeCasts_S196x32x128_S14x14x32x128) Cert.KernelIdeal.Gen.transposes_S14x14x32x128_S32x128x14x14_2_3_0_1 := by
  obtain ⟨a0, a1, a2, a3⟩ := A
  unfold Met at S
  rw [← a0, ← a1, ← a2, ← a3] at S
  funext i
  rw [eq_ix4 i]
  refine (Cert.ReferenceIdeal.Y.y_at (launchContents m' c) (fun _ _ _ _ => S.x_real _) (fun _ _ => S.g_real _)
    (fun _ _ _ _ _ => S.w_real _) (fun _ _ => S.b_real _) S.w_alike S.b_alike (i 0) (i 1) (i 2) (i 3)).trans ?_
  refine Eq.trans ?_ (Cert.KernelIdeal.Y.y_value m c (i 0) (i 1) (i 2) (i 3)).symm
  rw [← a0, ← a2, ← a3]

/-- The second results agree: both are the loss of the gates of the images. -/
theorem loss_agrees (c : Dev Cert.KernelIdeal.nD) (S : Met m c) (A : Agree m m' c) (v : FVec Ideal Cert.ReferenceIdeal.S_ .f32)
    (hv : ∀ (_ : ∀ b e, IsReal (Cert.ReferenceIdeal.Y.L (launchContents m' c) b e)) j, v j = loss fun b => gates (Cert.ReferenceIdeal.Y.L (launchContents m' c) b)) :
    v = shapeCast Cert.KernelIdeal.S_ (Cert.KernelIdeal.Gen.outsAt0 (F := Ideal) m c Cert.KernelIdeal.Gen.t0_0).2 Cert.KernelIdeal.Gen.shapeCasts_S1x1_S_ := by
  obtain ⟨a0, a1, -, -⟩ := A
  have hk : ∀ b k, IsReal (logit (fun d h w => m (c.tc.loc Cert.KernelIdeal.main_arg0) (ix4 b d h w))
      (fun d e => m (c.tc.loc Cert.KernelIdeal.main_arg1) (ix2 d e)) k) :=
    fun b k => logit_real (fun _ _ _ => S.x_real _) (fun _ _ => S.g_real _) k
  funext j
  refine Eq.trans ?_ (Cert.KernelIdeal.Y.loss_value m c (fun b k => ?_) j).symm
  · rw [← a0, ← a1] at hk ⊢
    exact hv hk j
  · obtain ⟨r, hr⟩ := hk b k
    rw [hr]; exact EReal.bot_lt_coe r

/-- The two programs end with equal results. -/
theorem algebraic : algebraic_KernelIdeal_ReferenceIdeal_pre_experts_alike
    (hKernelIdeal := Cert.KernelIdeal.Gen.facts) (hReferenceIdeal := Cert.ReferenceIdeal.Gen.facts) (hPre_experts_alike := Cert.Pre_experts_alike.Gen.facts) := by
  intro m ρ m' ρ' hpre hagree
  refine ⟨_, _, (θ_run Cert.KernelIdeal.defs _ _).mono (fun r h c => ⟨(h.1 c).1, (h.1 c).2, h.2.1 c⟩)
    (θ_run_and (Cert.KernelIdeal.Y.kernel_run m ρ) (Cert.KernelIdeal.Gen.frame m ρ)), ?_⟩
  refine (θ_run Cert.ReferenceIdeal.defs _ _).mono (fun r h c => ⟨(h c).1.trans ?_, (h c).2.1.trans ?_, (h c).2.2⟩)
    (Cert.ReferenceIdeal.Value.run (F := Ideal) m' ρ')
  · exact y_agrees m m' c (Cert.Pre_experts_alike.Y.says_of_fn _ _ _ _ (hpre c)) (hagree c)
  · exact loss_agrees m m' c (Cert.Pre_experts_alike.Y.says_of_fn _ _ _ _ (hpre c)) (hagree c) _
      (fun hL j => Cert.ReferenceIdeal.Y.loss_at (launchContents m' c) hL j)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_experts_alike
public import proofs.«01_k».proof.Proof.Algebraic
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs, its arguments end unchanged and every semaphore counter at zero. -/
theorem reference_frame :
    quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Every claim of this certificate: the frames of the kernel, the idealized kernel and the reference, the named constant, and
the equality of both results. -/
theorem claim : Cert.Claim := ⟨Cert.Kernel.Gen.facts, Cert.KernelIdeal.Gen.facts, Cert.ReferenceIdeal.Gen.facts, Cert.Pre_experts_alike.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "inv_hw" .f32 0x3BA72F05#32 ((196⁻¹ : ℝ) : EReal) rfl,
  algebraic⟩

end Cert.Proof

end
